-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_v21_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S416x168x128 : Shape := ⟨3, ![416, 168, 128]⟩
abbrev S8x3x16x512 : Shape := ⟨4, ![8, 3, 16, 512]⟩
abbrev S8x3x16x64 : Shape := ⟨4, ![8, 3, 16, 64]⟩
abbrev S8x3x512 : Shape := ⟨3, ![8, 3, 512]⟩
abbrev S8x3x64 : Shape := ⟨3, ![8, 3, 64]⟩
abbrev S416x128x128 : Shape := ⟨3, ![416, 128, 128]⟩
abbrev S416x128x128x4 : Shape := ⟨4, ![416, 128, 128, 4]⟩
abbrev S416x4x128 : Shape := ⟨3, ![416, 4, 128]⟩
abbrev S416x32x128 : Shape := ⟨3, ![416, 32, 128]⟩
abbrev S416x32x128x2 : Shape := ⟨4, ![416, 32, 128, 2]⟩
abbrev S416x3x128 : Shape := ⟨3, ![416, 3, 128]⟩
abbrev S_ : Shape := ⟨0, ![]⟩

class Facts : Prop where
  slices_S416x168x128_S416x128x128_0_0_0 : S416x168x128.Slices ![0, 0, 0] S416x128x128
  splits_S416x128x128_w32_S416x128x128x4_w8 : S416x128x128.SplitsWords 32 S416x128x128x4 8
  slices_S416x168x128_S416x4x128_0_128_0 : S416x168x128.Slices ![0, 128, 0] S416x4x128
  slices_S416x168x128_S416x32x128_0_132_0 : S416x168x128.Slices ![0, 132, 0] S416x32x128
  splits_S416x32x128_w32_S416x32x128x2_w16 : S416x32x128.SplitsWords 32 S416x32x128x2 16
  slices_S416x168x128_S416x3x128_0_164_0 : S416x168x128.Slices ![0, 164, 0] S416x3x128
  bcast_S_S8x3x16x512 : S_.BroadcastsInDim S8x3x16x512 (![] : Fin 0 → Fin S8x3x16x512.rank)
  bcast_S_S8x3x16x64 : S_.BroadcastsInDim S8x3x16x64 (![] : Fin 0 → Fin S8x3x16x64.rank)
  bcast_S_S8x3x64 : S_.BroadcastsInDim S8x3x64 (![] : Fin 0 → Fin S8x3x64.rank)
  bcast_S_S8x3x512 : S_.BroadcastsInDim S8x3x512 (![] : Fin 0 → Fin S8x3x512.rank)
  bcast_S_S416x128x128x4 : S_.BroadcastsInDim S416x128x128x4 (![] : Fin 0 → Fin S416x128x128x4.rank)
  bcast_S_S416x4x128 : S_.BroadcastsInDim S416x4x128 (![] : Fin 0 → Fin S416x4x128.rank)
  bcast_S_S416x32x128x2 : S_.BroadcastsInDim S416x32x128x2 (![] : Fin 0 → Fin S416x32x128x2.rank)
  bcast_S_S416x3x128 : S_.BroadcastsInDim S416x3x128 (![] : Fin 0 → Fin S416x3x128.rank)

variable [Facts]

def fn_part1 {F : FTy → Type} [FloatOps F] (main_v1 : IVec S416x128x128x4 8) (main_v3 : FVec F S416x4x128 .f32) (main_v5 : FVec F S416x32x128x2 .bf16) (main_v7 : FVec F S416x3x128 .f32) (main_v8 : FVec F S8x3x512 .bf16) (main_v11 : IVec S8x3x16x512 1) (main_v14 : IVec S8x3x16x64 1) (main_v17 : IVec S8x3x64 1) (main_v19 : IVec S8x3x512 1) : IVec S8x3x16x512 1 × IVec S8x3x16x64 1 × IVec S8x3x64 1 × IVec S8x3x512 1 × IVec S416x128x128x4 1 × IVec S416x4x128 1 × IVec S416x32x128x2 1 × IVec S416x3x128 1 :=
  let main_cst_3 : FVec F S_ .bf16 := constant S_ .bf16 0x7F80#16
  let main_v20 : FVec F S8x3x512 .bf16 := broadcastInDim S8x3x512 ![] bcast_S_S8x3x512 main_cst_3
  let main_v21 : IVec S8x3x512 1 := cmpf .oeq main_v8 main_v20
  let main_v22 : IVec S8x3x512 1 := ori main_v19 main_v21
  let main_c : IVec S_ 8 := constantI S_ 8 127#8
  let main_v23 : IVec S416x128x128x4 8 := broadcastInDim S416x128x128x4 ![] bcast_S_S416x128x128x4 main_c
  let main_v24 : IVec S416x128x128x4 1 := cmpi .ne main_v1 main_v23
  let main_c_4 : IVec S_ 8 := constantI S_ 8 255#8
  let main_v25 : IVec S416x128x128x4 8 := broadcastInDim S416x128x128x4 ![] bcast_S_S416x128x128x4 main_c_4
  let main_v26 : IVec S416x128x128x4 1 := cmpi .ne main_v1 main_v25
  let main_v27 : IVec S416x128x128x4 1 := andi main_v24 main_v26
  let main_v28 : FVec F S416x4x128 .f32 := Host.absf main_v3
  let main_cst_5 : FVec F S_ .f32 := constant S_ .f32 0x7F800000#32
  let main_v29 : FVec F S416x4x128 .f32 := broadcastInDim S416x4x128 ![] bcast_S_S416x4x128 main_cst_5
  let main_v30 : IVec S416x4x128 1 := cmpf .olt main_v28 main_v29
  let main_v31 : FVec F S416x32x128x2 .bf16 := Host.absf main_v5
  let main_cst_6 : FVec F S_ .bf16 := constant S_ .bf16 0x7F80#16
  let main_v32 : FVec F S416x32x128x2 .bf16 := broadcastInDim S416x32x128x2 ![] bcast_S_S416x32x128x2 main_cst_6
  let main_v33 : IVec S416x32x128x2 1 := cmpf .olt main_v31 main_v32
  let main_cst_7 : FVec F S_ .f32 := constant S_ .f32 0x7F800000#32
  let main_v34 : FVec F S416x3x128 .f32 := broadcastInDim S416x3x128 ![] bcast_S_S416x3x128 main_cst_7
  let main_v35 : IVec S416x3x128 1 := cmpf .olt main_v7 main_v34
  (main_v11, main_v14, main_v17, main_v22, main_v27, main_v30, main_v33, main_v35)

def fn {F : FTy → Type} [FloatOps F] (main_arg0 : IVec S416x168x128 32) (main_arg1 : FVec F S8x3x16x512 .bf16) (main_arg2 : FVec F S8x3x16x64 .bf16) (main_arg3 : FVec F S8x3x512 .bf16) (main_arg4 : FVec F S8x3x64 .bf16) : IVec S8x3x16x512 1 × IVec S8x3x16x64 1 × IVec S8x3x64 1 × IVec S8x3x512 1 × IVec S416x128x128x4 1 × IVec S416x4x128 1 × IVec S416x32x128x2 1 × IVec S416x3x128 1 :=
  let main_v0 : IVec S416x128x128 32 := (extractStridedSlice S416x128x128 ![0, 0, 0] · slices_S416x168x128_S416x128x128_0_0_0) main_arg0
  let main_v1 : IVec S416x128x128x4 8 := (fun x => Host.bitcastConvertNarrow S416x128x128x4 8 x splits_S416x128x128_w32_S416x128x128x4_w8) main_v0
  let main_v2 : IVec S416x4x128 32 := (extractStridedSlice S416x4x128 ![0, 128, 0] · slices_S416x168x128_S416x4x128_0_128_0) main_arg0
  let main_v3 : FVec F S416x4x128 .f32 := bitcastToFloat .f32 main_v2
  let main_v4 : IVec S416x32x128 32 := (extractStridedSlice S416x32x128 ![0, 132, 0] · slices_S416x168x128_S416x32x128_0_132_0) main_arg0
  let main_v5 : FVec F S416x32x128x2 .bf16 := (fun x => bitcastToFloat .bf16 (Host.bitcastConvertNarrow S416x32x128x2 16 x splits_S416x32x128_w32_S416x32x128x2_w16)) main_v4
  let main_v6 : IVec S416x3x128 32 := (extractStridedSlice S416x3x128 ![0, 164, 0] · slices_S416x168x128_S416x3x128_0_164_0) main_arg0
  let main_v7 : FVec F S416x3x128 .f32 := bitcastToFloat .f32 main_v6
  let main_v8 : FVec F S8x3x512 .bf16 := Host.absf main_arg3
  let main_v9 : FVec F S8x3x16x512 .bf16 := Host.absf main_arg1
  let main_cst : FVec F S_ .bf16 := constant S_ .bf16 0x7F80#16
  let main_v10 : FVec F S8x3x16x512 .bf16 := broadcastInDim S8x3x16x512 ![] bcast_S_S8x3x16x512 main_cst
  let main_v11 : IVec S8x3x16x512 1 := cmpf .olt main_v9 main_v10
  let main_v12 : FVec F S8x3x16x64 .bf16 := Host.absf main_arg2
  let main_cst_0 : FVec F S_ .bf16 := constant S_ .bf16 0x7F80#16
  let main_v13 : FVec F S8x3x16x64 .bf16 := broadcastInDim S8x3x16x64 ![] bcast_S_S8x3x16x64 main_cst_0
  let main_v14 : IVec S8x3x16x64 1 := cmpf .olt main_v12 main_v13
  let main_v15 : FVec F S8x3x64 .bf16 := Host.absf main_arg4
  let main_cst_1 : FVec F S_ .bf16 := constant S_ .bf16 0x7F80#16
  let main_v16 : FVec F S8x3x64 .bf16 := broadcastInDim S8x3x64 ![] bcast_S_S8x3x64 main_cst_1
  let main_v17 : IVec S8x3x64 1 := cmpf .olt main_v15 main_v16
  let main_cst_2 : FVec F S_ .bf16 := constant S_ .bf16 0x7F7F#16
  let main_v18 : FVec F S8x3x512 .bf16 := broadcastInDim S8x3x512 ![] bcast_S_S8x3x512 main_cst_2
  let main_v19 : IVec S8x3x512 1 := cmpf .ole main_v8 main_v18
  fn_part1 (F := F) main_v1 main_v3 main_v5 main_v7 main_v8 main_v11 main_v14 main_v17 main_v19
-- ==== Kernel.lean ====
abbrev S416x168x128 : Shape := ⟨3, ![416, 168, 128]⟩
abbrev S8x3x16x512 : Shape := ⟨4, ![8, 3, 16, 512]⟩
abbrev S8x3x16x64 : Shape := ⟨4, ![8, 3, 16, 64]⟩
abbrev S8x3x512 : Shape := ⟨3, ![8, 3, 512]⟩
abbrev S8x3x64 : Shape := ⟨3, ![8, 3, 64]⟩
abbrev S24x512 : Shape := ⟨2, ![24, 512]⟩
abbrev S512x24 : Shape := ⟨2, ![512, 24]⟩
abbrev S_ : Shape := ⟨0, ![]⟩
abbrev S512x128 : Shape := ⟨2, ![512, 128]⟩
abbrev S24x64 : Shape := ⟨2, ![24, 64]⟩
abbrev S64x24 : Shape := ⟨2, ![64, 24]⟩
abbrev S64x128 : Shape := ⟨2, ![64, 128]⟩
abbrev S8x48x512 : Shape := ⟨3, ![8, 48, 512]⟩
abbrev S8x48x64 : Shape := ⟨3, ![8, 48, 64]⟩
abbrev S8x48x1 : Shape := ⟨3, ![8, 48, 1]⟩
abbrev S24x4 : Shape := ⟨2, ![24, 4]⟩
abbrev S52x168x128 : Shape := ⟨3, ![52, 168, 128]⟩
abbrev S1x48x512 : Shape := ⟨3, ![1, 48, 512]⟩
abbrev S1x48x64 : Shape := ⟨3, ![1, 48, 64]⟩
abbrev S1x48x1 : Shape := ⟨3, ![1, 48, 1]⟩
abbrev S8x128 : Shape := ⟨2, ![8, 128]⟩
abbrev S48x6656 : Shape := ⟨2, ![48, 6656]⟩
abbrev S24x128 : Shape := ⟨2, ![24, 128]⟩
abbrev S24 : Shape := ⟨1, ![24]⟩
abbrev S24x1 : Shape := ⟨2, ![24, 1]⟩
abbrev S128x128 : Shape := ⟨2, ![128, 128]⟩
abbrev S128 : Shape := ⟨1, ![128]⟩
abbrev S1x128 : Shape := ⟨2, ![1, 128]⟩
abbrev S48x512 : Shape := ⟨2, ![48, 512]⟩
abbrev S48x128 : Shape := ⟨2, ![48, 128]⟩
abbrev S48x256 : Shape := ⟨2, ![48, 256]⟩
abbrev S96x256 : Shape := ⟨2, ![96, 256]⟩
abbrev S48x64 : Shape := ⟨2, ![48, 64]⟩
abbrev S256x128 : Shape := ⟨2, ![256, 128]⟩
abbrev S96x128 : Shape := ⟨2, ![96, 128]⟩
abbrev S1x32x128 : Shape := ⟨3, ![1, 32, 128]⟩
abbrev S32x128 : Shape := ⟨2, ![32, 128]⟩
abbrev S32x512 : Shape := ⟨2, ![32, 512]⟩
abbrev S64x512 : Shape := ⟨2, ![64, 512]⟩
abbrev S1x3x128 : Shape := ⟨3, ![1, 3, 128]⟩
abbrev S3x128 : Shape := ⟨2, ![3, 128]⟩
abbrev S3x512 : Shape := ⟨2, ![3, 512]⟩
abbrev S1x512 : Shape := ⟨2, ![1, 512]⟩
abbrev S16x512 : Shape := ⟨2, ![16, 512]⟩
abbrev S1x128x128 : Shape := ⟨3, ![1, 128, 128]⟩
abbrev S128x512 : Shape := ⟨2, ![128, 512]⟩
abbrev S512x512 : Shape := ⟨2, ![512, 512]⟩
abbrev S1x4x128 : Shape := ⟨3, ![1, 4, 128]⟩
abbrev S4x128 : Shape := ⟨2, ![4, 128]⟩
abbrev S4x512 : Shape := ⟨2, ![4, 512]⟩
abbrev S256x512 : Shape := ⟨2, ![256, 512]⟩
abbrev S96x512 : Shape := ⟨2, ![96, 512]⟩
abbrev S48 : Shape := ⟨1, ![48]⟩
abbrev S48x1 : Shape := ⟨2, ![48, 1]⟩
abbrev S1x48x128 : Shape := ⟨3, ![1, 48, 128]⟩

abbrev nBuf : Space → Nat
  | .hbm => 21
  | .vmem => 18
  | .smem => 0
  | _ => 0

abbrev bufTy : (tb : Table) → Fin (tcTables nBuf tb) → BufTy
  | .hbm, ⟨0, _⟩ => ⟨S416x168x128, .i32⟩
  | .hbm, ⟨1, _⟩ => ⟨S8x3x16x512, .bf16⟩
  | .hbm, ⟨2, _⟩ => ⟨S8x3x16x64, .bf16⟩
  | .hbm, ⟨3, _⟩ => ⟨S8x3x512, .bf16⟩
  | .hbm, ⟨4, _⟩ => ⟨S8x3x64, .bf16⟩
  | .hbm, ⟨5, _⟩ => ⟨S24x512, .bf16⟩
  | .hbm, ⟨6, _⟩ => ⟨S512x24, .bf16⟩
  | .hbm, ⟨7, _⟩ => ⟨S_, .i32⟩
  | .hbm, ⟨8, _⟩ => ⟨S_, .bf16⟩
  | .hbm, ⟨9, _⟩ => ⟨S512x128, .bf16⟩
  | .hbm, ⟨10, _⟩ => ⟨S24x64, .bf16⟩
  | .hbm, ⟨11, _⟩ => ⟨S64x24, .bf16⟩
  | .hbm, ⟨12, _⟩ => ⟨S_, .i32⟩
  | .hbm, ⟨13, _⟩ => ⟨S_, .bf16⟩
  | .hbm, ⟨14, _⟩ => ⟨S64x128, .bf16⟩
  | .hbm, ⟨15, _⟩ => ⟨S8x48x512, .bf16⟩
  | .hbm, ⟨16, _⟩ => ⟨S8x48x64, .bf16⟩
  | .hbm, ⟨17, _⟩ => ⟨S8x48x512, .bf16⟩
  | .hbm, ⟨18, _⟩ => ⟨S8x48x1, .f32⟩
  | .hbm, ⟨19, _⟩ => ⟨S24x512, .fp8e4m3⟩
  | .hbm, ⟨20, _⟩ => ⟨S24x4, .f32⟩
  | .local _ .vmem, ⟨0, _⟩ => ⟨S52x168x128, .i32⟩
  | .local _ .vmem, ⟨1, _⟩ => ⟨S52x168x128, .i32⟩
  | .local _ .vmem, ⟨2, _⟩ => ⟨S1x48x512, .bf16⟩
  | .local _ .vmem, ⟨3, _⟩ => ⟨S1x48x512, .bf16⟩
  | .local _ .vmem, ⟨4, _⟩ => ⟨S1x48x64, .bf16⟩
  | .local _ .vmem, ⟨5, _⟩ => ⟨S1x48x64, .bf16⟩
  | .local _ .vmem, ⟨6, _⟩ => ⟨S24x512, .bf16⟩
  | .local _ .vmem, ⟨7, _⟩ => ⟨S512x128, .bf16⟩
  | .local _ .vmem, ⟨8, _⟩ => ⟨S64x128, .bf16⟩
  | .local _ .vmem, ⟨9, _⟩ => ⟨S1x48x512, .bf16⟩
  | .local _ .vmem, ⟨10, _⟩ => ⟨S1x48x512, .bf16⟩
  | .local _ .vmem, ⟨11, _⟩ => ⟨S1x48x1, .f32⟩
  | .local _ .vmem, ⟨12, _⟩ => ⟨S1x48x1, .f32⟩
  | .local _ .vmem, ⟨13, _⟩ => ⟨S24x512, .fp8e4m3⟩
  | .local _ .vmem, ⟨14, _⟩ => ⟨S24x4, .f32⟩
  | .local _ .vmem, ⟨15, _⟩ => ⟨S512x128, .fp8e4m3⟩
  | .local _ .vmem, ⟨16, _⟩ => ⟨S8x128, .f32⟩
  | .local _ .vmem, ⟨17, _⟩ => ⟨S48x6656, .f32⟩
  | _, _ => ⟨S416x168x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S52x168x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x48x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x48x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S24x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S416x168x128 : Shape := ⟨3, ![416, 168, 128]⟩
abbrev S8x3x16x512 : Shape := ⟨4, ![8, 3, 16, 512]⟩
abbrev S8x3x16x64 : Shape := ⟨4, ![8, 3, 16, 64]⟩
abbrev S8x3x512 : Shape := ⟨3, ![8, 3, 512]⟩
abbrev S8x3x64 : Shape := ⟨3, ![8, 3, 64]⟩
abbrev S8x52x168x128 : Shape := ⟨4, ![8, 52, 168, 128]⟩
abbrev S8x52x128x168 : Shape := ⟨4, ![8, 52, 128, 168]⟩
abbrev S8x6656x168 : Shape := ⟨3, ![8, 6656, 168]⟩
abbrev S8x6656x128 : Shape := ⟨3, ![8, 6656, 128]⟩
abbrev S8x6656x128x4 : Shape := ⟨4, ![8, 6656, 128, 4]⟩
abbrev S8x6656x512 : Shape := ⟨3, ![8, 6656, 512]⟩
abbrev S8x6656x4 : Shape := ⟨3, ![8, 6656, 4]⟩
abbrev S8x6656x4x128 : Shape := ⟨4, ![8, 6656, 4, 128]⟩
abbrev S8x6656x32 : Shape := ⟨3, ![8, 6656, 32]⟩
abbrev S8x6656x32x2 : Shape := ⟨4, ![8, 6656, 32, 2]⟩
abbrev S8x6656x64 : Shape := ⟨3, ![8, 6656, 64]⟩
abbrev S8x6656x3 : Shape := ⟨3, ![8, 6656, 3]⟩
abbrev S8x3x6656 : Shape := ⟨3, ![8, 3, 6656]⟩
abbrev S8x3x16x6656 : Shape := ⟨4, ![8, 3, 16, 6656]⟩
abbrev S8x48x6656 : Shape := ⟨3, ![8, 48, 6656]⟩
abbrev S8x48x512 : Shape := ⟨3, ![8, 48, 512]⟩
abbrev S8x48x64 : Shape := ⟨3, ![8, 48, 64]⟩
abbrev S24x4x128 : Shape := ⟨3, ![24, 4, 128]⟩
abbrev S8x48x1 : Shape := ⟨3, ![8, 48, 1]⟩
abbrev S24x512 : Shape := ⟨2, ![24, 512]⟩
abbrev S24x4 : Shape := ⟨2, ![24, 4]⟩
abbrev S24x4x1 : Shape := ⟨3, ![24, 4, 1]⟩
abbrev S8x48x3 : Shape := ⟨3, ![8, 48, 3]⟩
abbrev S8x48x6659 : Shape := ⟨3, ![8, 48, 6659]⟩
abbrev S8x48 : Shape := ⟨2, ![8, 48]⟩

abbrev nBuf : Space → Nat
  | .hbm => 30
  | .vmem => 12
  | .smem => 0
  | _ => 0

abbrev bufTy : (tb : Table) → Fin (tcTables nBuf tb) → BufTy
  | .hbm, ⟨0, _⟩ => ⟨S416x168x128, .i32⟩
  | .hbm, ⟨1, _⟩ => ⟨S8x3x16x512, .bf16⟩
  | .hbm, ⟨2, _⟩ => ⟨S8x3x16x64, .bf16⟩
  | .hbm, ⟨3, _⟩ => ⟨S8x3x512, .bf16⟩
  | .hbm, ⟨4, _⟩ => ⟨S8x3x64, .bf16⟩
  | .hbm, ⟨5, _⟩ => ⟨S8x52x168x128, .i32⟩
  | .hbm, ⟨6, _⟩ => ⟨S8x52x128x168, .i32⟩
  | .hbm, ⟨7, _⟩ => ⟨S8x6656x168, .i32⟩
  | .hbm, ⟨8, _⟩ => ⟨S8x6656x128, .i32⟩
  | .hbm, ⟨9, _⟩ => ⟨S8x6656x128x4, .i8⟩
  | .hbm, ⟨10, _⟩ => ⟨S8x6656x512, .i8⟩
  | .hbm, ⟨11, _⟩ => ⟨S8x6656x4, .i32⟩
  | .hbm, ⟨12, _⟩ => ⟨S8x6656x4, .f32⟩
  | .hbm, ⟨13, _⟩ => ⟨S8x6656x4x128, .f32⟩
  | .hbm, ⟨14, _⟩ => ⟨S8x6656x512, .f32⟩
  | .hbm, ⟨15, _⟩ => ⟨S8x6656x32, .i32⟩
  | .hbm, ⟨16, _⟩ => ⟨S8x6656x32x2, .bf16⟩
  | .hbm, ⟨17, _⟩ => ⟨S8x6656x64, .bf16⟩
  | .hbm, ⟨18, _⟩ => ⟨S8x6656x3, .i32⟩
  | .hbm, ⟨19, _⟩ => ⟨S8x6656x3, .f32⟩
  | .hbm, ⟨20, _⟩ => ⟨S8x3x6656, .f32⟩
  | .hbm, ⟨21, _⟩ => ⟨S8x3x16x6656, .f32⟩
  | .hbm, ⟨22, _⟩ => ⟨S8x48x6656, .f32⟩
  | .hbm, ⟨23, _⟩ => ⟨S8x48x512, .bf16⟩
  | .hbm, ⟨24, _⟩ => ⟨S8x48x64, .bf16⟩
  | .hbm, ⟨25, _⟩ => ⟨S24x4x128, .bf16⟩
  | .hbm, ⟨26, _⟩ => ⟨S8x48x512, .bf16⟩
  | .hbm, ⟨27, _⟩ => ⟨S8x48x1, .f32⟩
  | .hbm, ⟨28, _⟩ => ⟨S24x512, .fp8e4m3⟩
  | .hbm, ⟨29, _⟩ => ⟨S24x4, .f32⟩
  | .local _ .vmem, ⟨0, _⟩ => ⟨S8x6656x512, .i8⟩
  | .local _ .vmem, ⟨1, _⟩ => ⟨S8x6656x512, .f32⟩
  | .local _ .vmem, ⟨2, _⟩ => ⟨S8x6656x64, .bf16⟩
  | .local _ .vmem, ⟨3, _⟩ => ⟨S8x48x6656, .f32⟩
  | .local _ .vmem, ⟨4, _⟩ => ⟨S8x48x512, .bf16⟩
  | .local _ .vmem, ⟨5, _⟩ => ⟨S8x48x64, .bf16⟩
  | .local _ .vmem, ⟨6, _⟩ => ⟨S24x4x128, .bf16⟩
  | .local _ .vmem, ⟨7, _⟩ => ⟨S8x3x64, .bf16⟩
  | .local _ .vmem, ⟨8, _⟩ => ⟨S8x48x512, .bf16⟩
  | .local _ .vmem, ⟨9, _⟩ => ⟨S8x48x1, .f32⟩
  | .local _ .vmem, ⟨10, _⟩ => ⟨S24x512, .fp8e4m3⟩
  | .local _ .vmem, ⟨11, _⟩ => ⟨S24x4, .f32⟩
  | _, _ => ⟨S416x168x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x6656x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6656x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6656x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x48x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x48x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x48x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x3x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x48x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.RunB.lean ====
/- One pass of the kernel's body, run over its skeleton, for any float carrier `F`. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later point: it reads the new tokens' codes and scales from scratch, where the first point left them,
    and stores into the two attention outputs and the score scratch only. -/
noncomputable def kernelRun0_B (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : ¬k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs0 : Vec F S512x128 .fp8e4m3) (xs1 : Vec F S8x128 .f32) :
    Σ' (L6 : List (View.Piece (Elt F) S1x48x512 .bf16)), Σ' (L7 : List (View.Piece (Elt F) S1x48x1 .f32)), { LT2 : List (View.Piece (Elt F) S48x6656 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xs0 ∗ owns (c : Thread nD τ) arg12 fullShare xs1 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LT2)) -∗ K ⟨⟩))
          ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attend_eq_skeleton]; unfold cc0_attend_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg12.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    iexists _; iexact HS2

end Cert.Kernel.Gen

end
-- ==== Proof.Kernel.RunA.lean ====
/- One pass of the kernel's body, run over its skeleton, for any float carrier `F`. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Tactic
public import Idealize.ShloMosaic.Lib.WordCmp
public import proofs.«01_k».proof.Proof.Kernel.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first point: the buffers it is run on, and the pieces its stores leave in each of them (last
    first). The scale scratch is taken at given contents `xs1`, for four of its eight rows are never written. -/
noncomputable def kernelRun0_A (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32) :
    Σ' (L6 : List (View.Piece (Elt F) S1x48x512 .bf16)), Σ' (L7 : List (View.Piece (Elt F) S1x48x1 .f32)), Σ' (L8 : List (View.Piece (Elt F) S24x512 .fp8e4m3)), Σ' (L9 : List (View.Piece (Elt F) S24x4 .f32)), Σ' (LS0 : List (View.Piece (Elt F) S512x128 .fp8e4m3)), Σ' (LS1 : List (View.Piece (Elt F) S8x128 .f32)), { LT2 : List (View.Piece (Elt F) S48x6656 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1) ∗ (∃ f, arg13.view.loc (c : Thread nD τ) ↦[arg13.view.set]{fullShare} arg13.view.writes (Elt F) f LT2)) -∗ K ⟨⟩))
          ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_attend_eq_skeleton]; unfold cc0_attend_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexact HS1
    iexists _; iexact HS2

end Cert.Kernel.Gen

end
-- ==== Proof.Kernel.Frame.lean ====
/- The frame of `Kernel`: the body keeps its obligation at every point, nothing being said of what it leaves in the
   outputs and in scratch, so every run ends and leaves the argument arrays unchanged. -/
module

public import proofs.«01_k».proof.Proof.Kernel.RunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S512x128 .fp8e4m3 := Memref.whole cc0_scratch0
abbrev scM0_1 : Memref sig .tc .vmem S8x128 .f32 := Memref.whole cc0_scratch1
abbrev scM0_2 : Memref sig .tc .vmem S48x6656 .f32 := Memref.whole cc0_scratch2

abbrev ms0_0 (t : Fin cfg0.N) : Memref sig .tc .vmem S52x168x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x48x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x48x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x48x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x48x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S24x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x4 .f32 := win0_9.stage (cfg0.slots t 9)
abbrev hs0_9 (t : Fin cfg0.N) : (ms0_9 t).IsWhole := hstage0_9 ((cfg0.slots t 9).cast nbuf0_9)

/-- What the region holds between points: every scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The output windows, of whose contents nothing is said. -/
def forgets0 : Fin 10 → Bool := fun w => w.val == 6 || w.val == 7 || w.val == 8 || w.val == 9

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point, by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves0_0, leaves0_1, leaves0_2, leaves0_3, leaves0_4, leaves0_5]
  by_cases h0 : k0_cond1 (grid0.coords t) = 1#1
  · iintro ⟨⟨⟨HS0, ⟨%ds1, HS1⟩, HS2⟩, Hg⟩, Ho, ⟨%d0, H0⟩, ⟨%d1, H1⟩, ⟨%d2, H2⟩, ⟨%d3, H3⟩, ⟨%d4, H4⟩, ⟨%d5, H5⟩, H6, H7, H8, H9⟩
    iapply ((kernelRun0_A c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) ds1).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · icases HS0 with ⟨%e, HS0⟩
          iexists _; unfold owns; iexists _; isplitr
          swap; · iexact HS0
          ipureintro; rfl
        isplitl [HS1]
        · iexists _; unfold owns; iexists _; isplitr
          swap; · iexact HS1
          ipureintro; rfl
        icases HS2 with ⟨%e, HS2⟩
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%e, H6⟩
      iexists _; unfold owns; iexists _; isplitr
      swap; · iexact H6
      ipureintro; rfl
    isplitl [H7]
    · icases H7 with ⟨%e, H7⟩
      iexists _; unfold owns; iexists _; isplitr
      swap; · iexact H7
      ipureintro; rfl
    isplitl [H8]
    · icases H8 with ⟨%e, H8⟩
      iexists _; unfold owns; iexists _; isplitr
      swap; · iexact H8
      ipureintro; rfl
    icases H9 with ⟨%e, H9⟩
    iexists _; unfold owns; iexists _; isplitr
    swap; · iexact H9
    ipureintro; rfl
  · iintro ⟨⟨⟨⟨%ds0, HS0⟩, ⟨%ds1, HS1⟩, HS2⟩, Hg⟩, Ho, ⟨%d0, H0⟩, ⟨%d1, H1⟩, ⟨%d2, H2⟩, ⟨%d3, H3⟩, ⟨%d4, H4⟩, ⟨%d5, H5⟩, H6, H7, H8, H9⟩
    iapply ((kernelRun0_B c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) ds0 ds1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexists _; iexact HS0
        isplitl [HS1]; · iexists _; iexact HS1
        icases HS2 with ⟨%e, HS2⟩
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%e, H6⟩
      iexists _; unfold owns; iexists _; isplitr
      swap; · iexact H6
      ipureintro; rfl
    isplitl [H7]
    · icases H7 with ⟨%e, H7⟩
      iexists _; unfold owns; iexists _; isplitr
      swap; · iexact H7
      ipureintro; rfl
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- THE FRAME: every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hs⟩ => ⟨fun c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hs⟩) (run_main_quiescent m ρ)

end Cert.Kernel.Gen

end
-- ==== Proof.KernelIdeal.RunB.lean ====
/- One pass of the kernel's body, run over its skeleton, for any float carrier `F`. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later point: it reads the new tokens' codes and scales from scratch, where the first point left them,
    and stores into the two attention outputs and the score scratch only. -/
noncomputable def kernelRun0_B (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : ¬k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs0 : Vec F S512x128 .fp8e4m3) (xs1 : Vec F S8x128 .f32) :
    Σ' (L6 : List (View.Piece (Elt F) S1x48x512 .bf16)), Σ' (L7 : List (View.Piece (Elt F) S1x48x1 .f32)), { LT2 : List (View.Piece (Elt F) S48x6656 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xs0 ∗ owns (c : Thread nD τ) arg12 fullShare xs1 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg11 fullShare xs0 ∗ owns (c : Thread nD τ) arg12 fullShare xs1 ∗ (∃ f, arg13.view.loc (c : Thread nD τ) ↦[arg13.view.set]{fullShare} arg13.view.writes (Elt F) f LT2)) -∗ K ⟨⟩))
          ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attend_eq_skeleton]; unfold cc0_attend_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg12.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    iexists _; iexact HS2

end Cert.KernelIdeal.Gen

end
-- ==== Proof.KernelIdeal.RunA.lean ====
/- One pass of the kernel's body, run over its skeleton, for any float carrier `F`. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.WordCmp
public import proofs.«01_k».proof.Proof.KernelIdeal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first point: the buffers it is run on, and the pieces its stores leave in each of them (last
    first). The scale scratch is taken at given contents `xs1`, for four of its eight rows are never written. -/
noncomputable def kernelRun0_A (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32) :
    Σ' (L6 : List (View.Piece (Elt F) S1x48x512 .bf16)), Σ' (L7 : List (View.Piece (Elt F) S1x48x1 .f32)), Σ' (L8 : List (View.Piece (Elt F) S24x512 .fp8e4m3)), Σ' (L9 : List (View.Piece (Elt F) S24x4 .f32)), Σ' (LS0 : List (View.Piece (Elt F) S512x128 .fp8e4m3)), Σ' (LS1 : List (View.Piece (Elt F) S8x128 .f32)), { LT2 : List (View.Piece (Elt F) S48x6656 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1) ∗ (∃ f, arg13.view.loc (c : Thread nD τ) ↦[arg13.view.set]{fullShare} arg13.view.writes (Elt F) f LT2)) -∗ K ⟨⟩))
          ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_attend_eq_skeleton]; unfold cc0_attend_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs1
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexact HS1
    iexists _; iexact HS2

end Cert.KernelIdeal.Gen

end
-- ==== Proof.KernelIdeal.Model.lean ====
/- What one pass of the body computes, chunk by chunk, as a function of the loads: thirteen chunks of 512 columns of the
   packed keys, scored into the score scratch, exponentiated there in place, and summed into the output. The payloads
   of one chunk stand for those of every chunk. -/
module

public import proofs.«01_k».proof.Proof.KernelIdeal.RunA

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

/-- A box of `n` rows of tile `4 c + i` of the packed keys lies in them. -/
theorem tile_inb (c : Fin 13) (i r n : ℕ) (hi : i < 4) (h : r + n ≤ 168) :
    ∀ a, (![4 * c.val + i, r, 0] : Fin 3 → ℕ) a + (![1, n, 128] : Fin 3 → ℕ) a ≤ S52x168x128.size a := by
  intro a
  match a with
  | 0 => show 4 * c.val + i + 1 ≤ 52; omega
  | 1 => show r + n ≤ 168; exact h
  | 2 => show 0 + 128 ≤ 128; omega

theorem col_inb (c : Fin 13) :
    ∀ a, (![0, 512 * c.val] : Fin 2 → ℕ) a + S48x512.size a ≤ S48x6656.size a := by
  intro a
  match a with
  | 0 => show 0 + 48 ≤ 48; omega
  | 1 => show 512 * c.val + 512 ≤ 6656; omega

/-- The columns of chunk `c` in the score scratch. -/
abbrev colRect (c : Fin 13) : Rect S48x6656 := Rect.unit ![0, 512 * c.val] S48x512.size (col_inb c)

/-- The loads of the inputs, each from a buffer holding its block. -/
abbrev ldW (arg1 : Memref sig .tc .vmem S52x168x128 .i32) (harg1 : arg1.IsWhole) (x0 : Vec F S52x168x128 .i32)
    (r : Rect S52x168x128) : r.shape.Idx → Elt F .i32 := View.readAt (Elt F) arg1.view r.toLoadRect (harg1.unread x0)
abbrev ldQ (arg2 : Memref sig .tc .vmem S1x48x512 .bf16) (harg2 : arg2.IsWhole) (x1 : Vec F S1x48x512 .bf16) : Vec F S1x48x512 .bf16 :=
  View.readAt (Elt F) arg2.view (Rect.unit ![0, 0, 0] S1x48x512.size inb_S1x48x512_S1x48x512_0_0_0).toLoadRect (harg2.unread x1)
abbrev ldR (arg3 : Memref sig .tc .vmem S1x48x64 .bf16) (harg3 : arg3.IsWhole) (x2 : Vec F S1x48x64 .bf16) : Vec F S1x48x64 .bf16 :=
  View.readAt (Elt F) arg3.view (Rect.unit ![0, 0, 0] S1x48x64.size inb_S1x48x64_S1x48x64_0_0_0).toLoadRect (harg3.unread x2)
abbrev ldN (arg6 : Memref sig .tc .vmem S64x128 .bf16) (harg6 : arg6.IsWhole) (x5 : Vec F S64x128 .bf16) : Vec F S64x128 .bf16 :=
  View.readAt (Elt F) arg6.view (Rect.unit ![0, 0] S64x128.size inb_S64x128_S64x128_0_0).toLoadRect (harg6.unread x5)
abbrev ldC (arg11 : Memref sig .tc .vmem S512x128 .fp8e4m3) (f : arg11.view.ty.Contents (Elt F)) : Vec F S512x128 .fp8e4m3 :=
  View.readAt (Elt F) arg11.view (Rect.unit ![0, 0] S512x128.size inb_S512x128_S512x128_0_0).toLoadRect f
abbrev ldS (arg12 : Memref sig .tc .vmem S8x128 .f32) (f : arg12.view.ty.Contents (Elt F)) : Vec F S8x128 .f32 :=
  View.readAt (Elt F) arg12.view (Rect.unit ![0, 0] S8x128.size inb_S8x128_S8x128_0_0).toLoadRect f

section scores

variable (W : (r : Rect S52x168x128) → r.shape.Idx → Elt F .i32)
  (q : Vec F S1x48x512 .bf16) (qr : Vec F S1x48x64 .bf16)

abbrev codeTile (c : Fin 13) (i : ℕ) (hi : i < 4 := by omega) : Vec F S1x128x128 .i32 :=
  W (Rect.unit ![4 * c.val + i, 0, 0] S1x128x128.size (tile_inb c i 0 128 hi (by omega)))
abbrev scaleTile (c : Fin 13) (i : ℕ) (hi : i < 4 := by omega) : Vec F S1x4x128 .i32 :=
  W (Rect.unit ![4 * c.val + i, 128, 0] S1x4x128.size (tile_inb c i 128 4 hi (by omega)))
abbrev ropeTile (c : Fin 13) (i : ℕ) (hi : i < 4 := by omega) : Vec F S1x32x128 .i32 :=
  W (Rect.unit ![4 * c.val + i, 132, 0] S1x32x128.size (tile_inb c i 132 32 hi (by omega)))
abbrev biasTile (c : Fin 13) (i : ℕ) (hi : i < 4 := by omega) : Vec F S1x3x128 .i32 :=
  W (Rect.unit ![4 * c.val + i, 164, 0] S1x3x128.size (tile_inb c i 164 3 hi (by omega)))

/-- The codes, the scales' words, the rope parts and the biases of the 512 columns of chunk `c`. -/
def codes (c : Fin 13) : FVec F S512x512 .fp8e4m3 :=
  k0_pay133 (codeTile W c 0) (codeTile W c 1) (codeTile W c 2) (codeTile W c 3)
def scaleWords (c : Fin 13) : IVec S4x512 32 :=
  k0_pay134 (F := F) (scaleTile W c 0) (scaleTile W c 1) (scaleTile W c 2) (scaleTile W c 3)
def rope (c : Fin 13) : FVec F S64x512 .bf16 :=
  k0_pay128 (ropeTile W c 0) (ropeTile W c 1) (ropeTile W c 2) (ropeTile W c 3)
def bias (c : Fin 13) : FVec F S48x512 .f32 :=
  k0_pay132 (k0_pay129 (F := F) (biasTile W c 0)) (k0_pay129 (F := F) (biasTile W c 1))
    (k0_pay129 (F := F) (biasTile W c 2)) (biasTile W c 3)

/-- The scores of chunk `c`, -/
def sc (c : Fin 13) : FVec F S48x512 .f32 :=
  k0_pay135 (k0_pay87 q) (k0_pay88 q) (rope W c) (bias W c) (codes W c) (scaleWords W c) qr

/-- and of the new tokens, those not visible to a row at `-∞`. -/
def scNew (i : grid0.Coords) (nrt : Vec F S64x128 .bf16) (nc : Vec F S512x128 .fp8e4m3) (ns : Vec F S8x128 .f32) :
    FVec F S48x128 .f32 :=
  k0_pay91 (BitVec.ofNat 32 (i 0).val) (k0_pay87 q) (k0_pay88 q) (iota .tc S48x128 32 [1] iota_S48x128_d1_w32) k0_pay89
    (k0_pay90 i) nc ns nrt qr

/-- A chunk folded into the running maximum and the running sum, 128 columns at a time. -/
def maxStep (a : FVec F S48x128 .f32) (s : FVec F S48x512 .f32) : FVec F S48x128 .f32 :=
  maximumf (maximumf (maximumf (maximumf a
    (extractStridedSlice S48x128 ![0, 0] s slices_S48x512_o0_0_S48x128))
    (extractStridedSlice S48x128 ![0, 128] s slices_S48x512_o0_128_S48x128))
    (extractStridedSlice S48x128 ![0, 256] s slices_S48x512_o0_256_S48x128))
    (extractStridedSlice S48x128 ![0, 384] s slices_S48x512_o0_384_S48x128)
def sumStep (a : FVec F S48x128 .f32) (s : FVec F S48x512 .f32) : FVec F S48x128 .f32 :=
  addf (addf (addf (addf a
    (extractStridedSlice S48x128 ![0, 0] s slices_S48x512_o0_0_S48x128))
    (extractStridedSlice S48x128 ![0, 128] s slices_S48x512_o0_128_S48x128))
    (extractStridedSlice S48x128 ![0, 256] s slices_S48x512_o0_256_S48x128))
    (extractStridedSlice S48x128 ![0, 384] s slices_S48x512_o0_384_S48x128)

variable (sn : FVec F S48x128 .f32)

/-- The running maximum after `n` chunks. -/
def mx : (n : ℕ) → n ≤ 13 → FVec F S48x128 .f32
  | 0, _ => sn
  | n + 1, h => maxStep (mx n (Nat.le_of_succ_le h)) (sc W q qr ⟨n, h⟩)

/-- The largest score of each row. -/
def m : FVec F S48x1 .f32 :=
  shapeCast S48x1 (multiReduction .maximumf [1] S48 (mx W q qr sn 13 (Nat.le_refl 13)) 0xFF800000#32 reduces_S48x128_S48 (.inl rfl) rfl)
    shapeCasts_S48_S48x1

/-- The score scratch after `n` chunks of scores, -/
def scList : (n : ℕ) → n ≤ 13 → List (View.Piece (Elt F) S48x6656 .f32)
  | 0, _ => []
  | n + 1, h => ⟨colRect ⟨n, h⟩, shapeCast S48x512 (sc W q qr ⟨n, h⟩) shapeCasts_S48x512_S48x512⟩
      :: scList n (Nat.le_of_succ_le h)

variable (v : View sig .tc .vmem S48x6656 .f32)

/-- and after `n` of them have been exponentiated in place. -/
def exList : (n : ℕ) → n ≤ 13 → List (View.Piece (Elt F) S48x6656 .f32)
  | 0, _ => scList W q qr 13 (Nat.le_refl 13)
  | n + 1, h => ⟨colRect ⟨n, h⟩, shapeCast S48x512 (k0_pay244 (m W q qr sn)
      (v.readCov (exList n (Nat.le_of_succ_le h)) (colRect ⟨n, h⟩).toLoadRect)) shapeCasts_S48x512_S48x512⟩
      :: exList n (Nat.le_of_succ_le h)

/-- One more chunk exponentiated, over a list and a maximum known to be the model's. -/
theorem exList_step (n : ℕ) (h : n + 1 ≤ 13) (mm : FVec F S48x1 .f32) (hm : mm = m W q qr sn)
    (L : List (View.Piece (Elt F) S48x6656 .f32)) (hL : L = exList W q qr sn v n (Nat.le_of_succ_le h)) :
    (⟨colRect ⟨n, h⟩, shapeCast S48x512 (k0_pay244 mm (v.readCov L (colRect ⟨n, h⟩).toLoadRect)) shapeCasts_S48x512_S48x512⟩ :: L
      : List (View.Piece (Elt F) S48x6656 .f32)) = exList W q qr sn v (n + 1) h := by
  subst hm hL; rfl

/-- The exponentials as they are when chunk `n` is summed. -/
def exNow (n : ℕ) (h : n < 13) : FVec F S48x512 .f32 :=
  k0_pay244 (m W q qr sn) (v.readCov (exList W q qr sn v n (Nat.le_of_lt h)) (colRect ⟨n, h⟩).toLoadRect)

def exNew : FVec F S48x128 .f32 := exp (subf sn (broadcastTo S48x128 (m W q qr sn) broadcasts_S48x1_S48x128))

/-- The running sum of the exponentials after `n` chunks, -/
def den' : (n : ℕ) → n ≤ 13 → FVec F S48x128 .f32
  | 0, _ => exNew W q qr sn
  | n + 1, h => sumStep (den' n (Nat.le_of_succ_le h)) (exNow W q qr sn v n h)

/-- their sum for each row, and its reciprocal. -/
def den : FVec F S48x1 .f32 :=
  shapeCast S48x1 (multiReduction .add [1] S48 (den' W q qr sn v 13 (Nat.le_refl 13)) 0x00000000#32 reduces_S48x128_S48 (.inl rfl) rfl)
    shapeCasts_S48_S48x1
def inv : FVec F S48x1 .f32 := divf (broadcast S48x1 (Scalar.ofBits .f32 0x3F800000#32 : F .f32)) (den W q qr sn v)

/-- The log-sum-exp of each row. -/
def lse : FVec F S1x48x1 .f32 :=
  k0_pay273 (m W q qr sn) (den W q qr sn v) (iota .tc S48x1 32 [0] iota_S48x1_d0_w32) 16#32 k0_pay271 k0_pay272 1#1

/-- What chunk `n` reads back when the output is summed. -/
def exBack (n : ℕ) (h : n < 13) : FVec F S48x512 .f32 :=
  v.readCov (exList W q qr sn v 13 (Nat.le_refl 13)) (colRect ⟨n, h⟩).toLoadRect

variable (nc : Vec F S512x128 .fp8e4m3) (ns : Vec F S8x128 .f32)

/-- The output's two halves of the columns after the new tokens and `n` chunks. -/
def acc0 : (n : ℕ) → n ≤ 13 → FVec F S96x256 .f32
  | 0, _ => k0_pay277 (exNew W q qr sn) (inv W q qr sn v) nc ns
  | n + 1, h => k0_pay314 (acc0 n (Nat.le_of_succ_le h)) (k0_pay310 (inv W q qr sn v) (exBack W q qr sn v n h))
      (codes W ⟨n, h⟩) (scaleWords W ⟨n, h⟩)
def acc1 : (n : ℕ) → n ≤ 13 → FVec F S96x256 .f32
  | 0, _ => k0_pay280 (k0_pay274 (F := F)) (k0_pay275 (exNew W q qr sn) (inv W q qr sn v)) nc
      (k0_pay278 (exNew W q qr sn) (inv W q qr sn v) ns) (k0_pay279 ns)
  | n + 1, h => k0_pay315 (acc1 n (Nat.le_of_succ_le h)) (k0_pay310 (inv W q qr sn v) (exBack W q qr sn v n h))
      (codes W ⟨n, h⟩) (scaleWords W ⟨n, h⟩)

/-- The four column blocks of the output. -/
def outL : List (View.Piece (Elt F) S1x48x512 .bf16) :=
  [⟨Rect.unit ![0, 0, 384] ![1, 48, 128] inb_S1x48x512_S1x48x128_0_0_384, k0_pay3 (acc1 W q qr sn v nc ns 13 (Nat.le_refl 13))⟩,
   ⟨Rect.unit ![0, 0, 256] ![1, 48, 128] inb_S1x48x512_S1x48x128_0_0_256, k0_pay2 (acc1 W q qr sn v nc ns 13 (Nat.le_refl 13))⟩,
   ⟨Rect.unit ![0, 0, 128] ![1, 48, 128] inb_S1x48x512_S1x48x128_0_0_128, k0_pay1 (acc0 W q qr sn v nc ns 13 (Nat.le_refl 13))⟩,
   ⟨Rect.unit ![0, 0, 0] S1x48x128.size inb_S1x48x512_S1x48x128_0_0_0,
     k0_pay365 (truncf .bf16 (extractStridedSlice S48x128 ![0, 0] (acc0 W q qr sn v nc ns 13 (Nat.le_refl 13)) slices_S96x256_o0_0_S48x128) bitsLt_bf16_f32)⟩]
def lseL : List (View.Piece (Elt F) S1x48x1 .f32) :=
  [⟨Rect.unit ![0, 0, 0] S1x48x1.size inb_S1x48x1_S1x48x1_0_0_0, lse W q qr sn v⟩]

end scores

end Cert.KernelIdeal.Model
end
end
-- ==== Proof.KernelIdeal.SameA.lean ====
/- The first point's run is the model: what it leaves in the two attention outputs is the model's pieces, the new
   tokens' codes and scales as the point itself stored them in scratch. -/
module

public import proofs.«01_k».proof.Proof.KernelIdeal.Model

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32)

/-- The new tokens' scores. -/
theorem sn_A :
    (kernelRun0_A.sl.r_60 c i arg2 harg2 arg3 harg3 arg5 harg5 arg6 harg6 arg11 arg12 harg12 x1 x2 x4 x5 xs1)
    = (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) := by rfl

/-- The rows' largest scores. -/
theorem m_A :
    (kernelRun0_A.sl.r_178 c i arg1 harg1 arg2 harg2 arg3 harg3 arg5 harg5 arg6 harg6 arg11 arg12 harg12 x0 x1 x2 x4 x5 xs1)
    = m (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) := by rfl

/-- The new tokens' exponentials. -/
theorem exNew_A :
    (kernelRun0_A.sl.r_179 c i arg1 harg1 arg2 harg2 arg3 harg3 arg5 harg5 arg6 harg6 arg11 arg12 harg12 x0 x1 x2 x4 x5 xs1)
    = exNew (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) := by rfl

/-- The chunks' scores in the scratch. -/
theorem sc_A :
    (kernelRun0_A.sl.HS2_13 c arg1 harg1 arg2 harg2 arg3 harg3 x0 x1 x2)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 0 (by omega) := by rfl

/-- The first of the chunks exponentiated. -/
theorem ex1_A :
    (kernelRun0_A.sl.HS2_14 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 1 (by omega) := exList_step _ _ _ _ _ 0 (by omega) _ (m_A ..) _ (sc_A ..)

/-- 2 of the chunks exponentiated. -/
theorem ex2_A :
    (kernelRun0_A.sl.HS2_15 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 2 (by omega) := exList_step _ _ _ _ _ 1 (by omega) _ (m_A ..) _ (ex1_A ..)

/-- 3 of the chunks exponentiated. -/
theorem ex3_A :
    (kernelRun0_A.sl.HS2_16 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 3 (by omega) := exList_step _ _ _ _ _ 2 (by omega) _ (m_A ..) _ (ex2_A ..)

/-- 4 of the chunks exponentiated. -/
theorem ex4_A :
    (kernelRun0_A.sl.HS2_17 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 4 (by omega) := exList_step _ _ _ _ _ 3 (by omega) _ (m_A ..) _ (ex3_A ..)

/-- 5 of the chunks exponentiated. -/
theorem ex5_A :
    (kernelRun0_A.sl.HS2_18 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 5 (by omega) := exList_step _ _ _ _ _ 4 (by omega) _ (m_A ..) _ (ex4_A ..)

/-- 6 of the chunks exponentiated. -/
theorem ex6_A :
    (kernelRun0_A.sl.HS2_19 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 6 (by omega) := exList_step _ _ _ _ _ 5 (by omega) _ (m_A ..) _ (ex5_A ..)

/-- 7 of the chunks exponentiated. -/
theorem ex7_A :
    (kernelRun0_A.sl.HS2_20 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 7 (by omega) := exList_step _ _ _ _ _ 6 (by omega) _ (m_A ..) _ (ex6_A ..)

/-- 8 of the chunks exponentiated. -/
theorem ex8_A :
    (kernelRun0_A.sl.HS2_21 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 8 (by omega) := exList_step _ _ _ _ _ 7 (by omega) _ (m_A ..) _ (ex7_A ..)

/-- 9 of the chunks exponentiated. -/
theorem ex9_A :
    (kernelRun0_A.sl.HS2_22 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 9 (by omega) := exList_step _ _ _ _ _ 8 (by omega) _ (m_A ..) _ (ex8_A ..)

/-- 10 of the chunks exponentiated. -/
theorem ex10_A :
    (kernelRun0_A.sl.HS2_23 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 10 (by omega) := exList_step _ _ _ _ _ 9 (by omega) _ (m_A ..) _ (ex9_A ..)

/-- 11 of the chunks exponentiated. -/
theorem ex11_A :
    (kernelRun0_A.sl.HS2_24 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 11 (by omega) := exList_step _ _ _ _ _ 10 (by omega) _ (m_A ..) _ (ex10_A ..)

/-- 12 of the chunks exponentiated. -/
theorem ex12_A :
    (kernelRun0_A.sl.HS2_25 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 12 (by omega) := exList_step _ _ _ _ _ 11 (by omega) _ (m_A ..) _ (ex11_A ..)

/-- 13 of the chunks exponentiated. -/
theorem ex13_A :
    (kernelRun0_A.sl.HS2_26 c i arg1 harg1 arg2 harg2 arg3 harg3 arg5 harg5 arg6 harg6 arg11 arg12 harg12 arg13 x0 x1 x2 x4 x5 xs1)
    = exList (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view 13 (by omega) := exList_step _ _ _ _ _ 12 (by omega) _ (m_A ..) _ (ex12_A ..)

/-- The rows' sums of exponentials. -/
theorem den_A :
    (kernelRun0_A.sl.r_184 c i arg1 harg1 arg2 harg2 arg3 harg3 arg5 harg5 arg6 harg6 arg11 arg12 harg12 arg13 x0 x1 x2 x4 x5 xs1)
    = den (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view := by
  unfold kernelRun0_A.sl.r_184 kernelRun0_A.sl.r_183 kernelRun0_A.sl.r_182 kernelRun0_A.sl.r_181 kernelRun0_A.sl.r_180 kernelRun0_A.sl.v1273 kernelRun0_A.sl.v1288 kernelRun0_A.sl.v1303 kernelRun0_A.sl.v1318 kernelRun0_A.sl.v1333 kernelRun0_A.sl.v1348 kernelRun0_A.sl.v1363 kernelRun0_A.sl.v1378 kernelRun0_A.sl.v1393 kernelRun0_A.sl.v1408 kernelRun0_A.sl.v1423 kernelRun0_A.sl.v1438 kernelRun0_A.sl.v1453
  rw [m_A, sn_A, sc_A, ex1_A, ex2_A, ex3_A, ex4_A, ex5_A, ex6_A, ex7_A, ex8_A, ex9_A, ex10_A, ex11_A, ex12_A]
  rfl

/-- Their reciprocals. -/
theorem inv_A :
    (kernelRun0_A.sl.r_185 c i arg1 harg1 arg2 harg2 arg3 harg3 arg5 harg5 arg6 harg6 arg11 arg12 harg12 arg13 x0 x1 x2 x4 x5 xs1)
    = inv (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view := by
  show divf _ (kernelRun0_A.sl.r_184 c i arg1 harg1 arg2 harg2 arg3 harg3 arg5 harg5 arg6 harg6 arg11 arg12 harg12 arg13 x0 x1 x2 x4 x5 xs1) = _
  rw [den_A]
  rfl

set_option maxHeartbeats 1000000 in
/-- The output's first two column blocks, summed over the new tokens and the chunks. -/
theorem acc0_A :
    (kernelRun0_A.sl.r_260 c i arg1 harg1 arg2 harg2 arg3 harg3 arg5 harg5 arg6 harg6 arg11 arg12 harg12 arg13 x0 x1 x2 x4 x5 xs1)
    = acc0 (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view (kernelRun0_A.sl.v50 c arg5 harg5 arg11 x4) (ldS arg12 (arg12.view.writes (Elt F) (harg12.unread xs1) (kernelRun0_A.sl.HS1_4 c arg5 harg5 x4))) 13 (by omega) := by
  simp only [kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.v1534, kernelRun0_A.sl.v1579, kernelRun0_A.sl.v1624, kernelRun0_A.sl.v1669, kernelRun0_A.sl.v1714, kernelRun0_A.sl.v1759, kernelRun0_A.sl.v1804, kernelRun0_A.sl.v1849, kernelRun0_A.sl.v1894, kernelRun0_A.sl.v1939, kernelRun0_A.sl.v1984, kernelRun0_A.sl.v2029, kernelRun0_A.sl.v2074]
  rw [inv_A, exNew_A, ex13_A]
  rfl

set_option maxHeartbeats 1000000 in
/-- The output's second two column blocks, summed over the new tokens and the chunks. -/
theorem acc1_A :
    (kernelRun0_A.sl.r_261 c i arg1 harg1 arg2 harg2 arg3 harg3 arg5 harg5 arg6 harg6 arg11 arg12 harg12 arg13 x0 x1 x2 x4 x5 xs1)
    = acc1 (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view (kernelRun0_A.sl.v50 c arg5 harg5 arg11 x4) (ldS arg12 (arg12.view.writes (Elt F) (harg12.unread xs1) (kernelRun0_A.sl.HS1_4 c arg5 harg5 x4))) 13 (by omega) := by
  simp only [kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.v1534, kernelRun0_A.sl.v1579, kernelRun0_A.sl.v1624, kernelRun0_A.sl.v1669, kernelRun0_A.sl.v1714, kernelRun0_A.sl.v1759, kernelRun0_A.sl.v1804, kernelRun0_A.sl.v1849, kernelRun0_A.sl.v1894, kernelRun0_A.sl.v1939, kernelRun0_A.sl.v1984, kernelRun0_A.sl.v2029, kernelRun0_A.sl.v2074]
  rw [inv_A, exNew_A, ex13_A]
  rfl

/-- What the run leaves in the output -/
theorem out_A :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).1
    = outL (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view (kernelRun0_A.sl.v50 c arg5 harg5 arg11 x4) (ldS arg12 (arg12.view.writes (Elt F) (harg12.unread xs1) (kernelRun0_A.sl.HS1_4 c arg5 harg5 x4))) := by
  show ([⟨Rect.unit ![0, 0, 384] ![1, 48, 128] inb_S1x48x512_S1x48x128_0_0_384, k0_pay3 (kernelRun0_A.sl.r_261 c i arg1 harg1 arg2 harg2 arg3 harg3 arg5 harg5 arg6 harg6 arg11 arg12 harg12 arg13 x0 x1 x2 x4 x5 xs1)⟩,
    ⟨Rect.unit ![0, 0, 256] ![1, 48, 128] inb_S1x48x512_S1x48x128_0_0_256, k0_pay2 (kernelRun0_A.sl.r_261 c i arg1 harg1 arg2 harg2 arg3 harg3 arg5 harg5 arg6 harg6 arg11 arg12 harg12 arg13 x0 x1 x2 x4 x5 xs1)⟩,
    ⟨Rect.unit ![0, 0, 128] ![1, 48, 128] inb_S1x48x512_S1x48x128_0_0_128, k0_pay1 (kernelRun0_A.sl.r_260 c i arg1 harg1 arg2 harg2 arg3 harg3 arg5 harg5 arg6 harg6 arg11 arg12 harg12 arg13 x0 x1 x2 x4 x5 xs1)⟩,
    ⟨Rect.unit ![0, 0, 0] S1x48x128.size inb_S1x48x512_S1x48x128_0_0_0, k0_pay365 (truncf .bf16 (extractStridedSlice S48x128 ![0, 0] (kernelRun0_A.sl.r_260 c i arg1 harg1 arg2 harg2 arg3 harg3 arg5 harg5 arg6 harg6 arg11 arg12 harg12 arg13 x0 x1 x2 x4 x5 xs1) slices_S96x256_o0_0_S48x128) bitsLt_bf16_f32)⟩]
    : List (View.Piece (Elt F) S1x48x512 .bf16)) = _
  rw [acc0_A, acc1_A]
  rfl

/-- and in the log-sum-exp. -/
theorem lse_A :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.1
    = lseL (ldW arg1 harg1 x0) (ldQ arg2 harg2 x1) (ldR arg3 harg3 x2)
      (scNew (ldQ arg2 harg2 x1) (ldR arg3 harg3 x2) i (ldN arg6 harg6 x5) (kernelRun0_A.sl.v50 c arg5 harg5 arg11 x4) (ldS arg12 (arg12.view.writes (Elt F) (harg12.unread xs1) (kernelRun0_A.sl.HS1_4 c arg5 harg5 x4)))) arg13.view := by
  show ([⟨Rect.unit ![0, 0, 0] S1x48x1.size inb_S1x48x1_S1x48x1_0_0_0,
    k0_pay273 (kernelRun0_A.sl.r_178 c i arg1 harg1 arg2 harg2 arg3 harg3 arg5 harg5 arg6 harg6 arg11 arg12 harg12 x0 x1 x2 x4 x5 xs1) (kernelRun0_A.sl.r_184 c i arg1 harg1 arg2 harg2 arg3 harg3 arg5 harg5 arg6 harg6 arg11 arg12 harg12 arg13 x0 x1 x2 x4 x5 xs1) (iota .tc S48x1 32 [0] iota_S48x1_d0_w32) 16#32 k0_pay271 k0_pay272 1#1⟩] : List (View.Piece (Elt F) S1x48x1 .f32)) = _
  rw [m_A, den_A]
  rfl

end Cert.KernelIdeal.Model
end
end
-- ==== Proof.KernelIdeal.SameB.lean ====
/- A later point's run is the model: what it leaves in the two attention outputs is the model's pieces, the new
   tokens' codes and scales as it finds them in scratch. -/
module

public import proofs.«01_k».proof.Proof.KernelIdeal.Model

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : ¬k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs0 : Vec F S512x128 .fp8e4m3) (xs1 : Vec F S8x128 .f32)

/-- The new tokens' scores. -/
theorem sn_B :
    (kernelRun0_B.sl.r_2 c i arg2 harg2 arg3 harg3 arg6 harg6 arg11 harg11 arg12 harg12 x1 x2 x5 xs0 xs1)
    = (scNew (ldQ arg2 harg2 x1) (ldR arg3 harg3 x2) i (ldN arg6 harg6 x5) (ldC arg11 (harg11.unread xs0)) (ldS arg12 (harg12.unread xs1))) := by rfl

/-- The rows' largest scores. -/
theorem m_B :
    (kernelRun0_B.sl.r_120 c i arg1 harg1 arg2 harg2 arg3 harg3 arg6 harg6 arg11 harg11 arg12 harg12 x0 x1 x2 x5 xs0 xs1)
    = m (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) := by rfl

/-- The new tokens' exponentials. -/
theorem exNew_B :
    (kernelRun0_B.sl.r_121 c i arg1 harg1 arg2 harg2 arg3 harg3 arg6 harg6 arg11 harg11 arg12 harg12 x0 x1 x2 x5 xs0 xs1)
    = exNew (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) := by rfl

/-- The chunks' scores in the scratch. -/
theorem sc_B :
    (kernelRun0_B.sl.HS2_13 c arg1 harg1 arg2 harg2 arg3 harg3 x0 x1 x2)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 0 (by omega) := by rfl

/-- The first of the chunks exponentiated. -/
theorem ex1_B :
    (kernelRun0_B.sl.HS2_14 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 1 (by omega) := exList_step _ _ _ _ _ 0 (by omega) _ (m_B ..) _ (sc_B ..)

/-- 2 of the chunks exponentiated. -/
theorem ex2_B :
    (kernelRun0_B.sl.HS2_15 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 2 (by omega) := exList_step _ _ _ _ _ 1 (by omega) _ (m_B ..) _ (ex1_B ..)

/-- 3 of the chunks exponentiated. -/
theorem ex3_B :
    (kernelRun0_B.sl.HS2_16 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 3 (by omega) := exList_step _ _ _ _ _ 2 (by omega) _ (m_B ..) _ (ex2_B ..)

/-- 4 of the chunks exponentiated. -/
theorem ex4_B :
    (kernelRun0_B.sl.HS2_17 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 4 (by omega) := exList_step _ _ _ _ _ 3 (by omega) _ (m_B ..) _ (ex3_B ..)

/-- 5 of the chunks exponentiated. -/
theorem ex5_B :
    (kernelRun0_B.sl.HS2_18 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 5 (by omega) := exList_step _ _ _ _ _ 4 (by omega) _ (m_B ..) _ (ex4_B ..)

/-- 6 of the chunks exponentiated. -/
theorem ex6_B :
    (kernelRun0_B.sl.HS2_19 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 6 (by omega) := exList_step _ _ _ _ _ 5 (by omega) _ (m_B ..) _ (ex5_B ..)

/-- 7 of the chunks exponentiated. -/
theorem ex7_B :
    (kernelRun0_B.sl.HS2_20 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 7 (by omega) := exList_step _ _ _ _ _ 6 (by omega) _ (m_B ..) _ (ex6_B ..)

/-- 8 of the chunks exponentiated. -/
theorem ex8_B :
    (kernelRun0_B.sl.HS2_21 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 8 (by omega) := exList_step _ _ _ _ _ 7 (by omega) _ (m_B ..) _ (ex7_B ..)

/-- 9 of the chunks exponentiated. -/
theorem ex9_B :
    (kernelRun0_B.sl.HS2_22 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 9 (by omega) := exList_step _ _ _ _ _ 8 (by omega) _ (m_B ..) _ (ex8_B ..)

/-- 10 of the chunks exponentiated. -/
theorem ex10_B :
    (kernelRun0_B.sl.HS2_23 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 10 (by omega) := exList_step _ _ _ _ _ 9 (by omega) _ (m_B ..) _ (ex9_B ..)

/-- 11 of the chunks exponentiated. -/
theorem ex11_B :
    (kernelRun0_B.sl.HS2_24 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 11 (by omega) := exList_step _ _ _ _ _ 10 (by omega) _ (m_B ..) _ (ex10_B ..)

/-- 12 of the chunks exponentiated. -/
theorem ex12_B :
    (kernelRun0_B.sl.HS2_25 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 12 (by omega) := exList_step _ _ _ _ _ 11 (by omega) _ (m_B ..) _ (ex11_B ..)

/-- 13 of the chunks exponentiated. -/
theorem ex13_B :
    (kernelRun0_B.sl.HS2_26 c i arg1 harg1 arg2 harg2 arg3 harg3 arg6 harg6 arg11 harg11 arg12 harg12 arg13 x0 x1 x2 x5
    xs0 xs1)
    = exList (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view 13 (by omega) := exList_step _ _ _ _ _ 12 (by omega) _ (m_B ..) _ (ex12_B ..)

/-- The rows' sums of exponentials. -/
theorem den_B :
    (kernelRun0_B.sl.r_126 c i arg1 harg1 arg2 harg2 arg3 harg3 arg6 harg6 arg11 harg11 arg12 harg12 arg13 x0 x1 x2 x5
    xs0 xs1)
    = den (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view := by
  unfold kernelRun0_B.sl.r_126 kernelRun0_B.sl.r_125 kernelRun0_B.sl.r_124 kernelRun0_B.sl.r_123 kernelRun0_B.sl.r_122 kernelRun0_B.sl.v1273 kernelRun0_B.sl.v1288 kernelRun0_B.sl.v1303 kernelRun0_B.sl.v1318 kernelRun0_B.sl.v1333 kernelRun0_B.sl.v1348 kernelRun0_B.sl.v1363 kernelRun0_B.sl.v1378 kernelRun0_B.sl.v1393 kernelRun0_B.sl.v1408 kernelRun0_B.sl.v1423 kernelRun0_B.sl.v1438 kernelRun0_B.sl.v1453
  rw [m_B, sn_B, sc_B, ex1_B, ex2_B, ex3_B, ex4_B, ex5_B, ex6_B, ex7_B, ex8_B, ex9_B, ex10_B, ex11_B, ex12_B]
  rfl

/-- Their reciprocals. -/
theorem inv_B :
    (kernelRun0_B.sl.r_127 c i arg1 harg1 arg2 harg2 arg3 harg3 arg6 harg6 arg11 harg11 arg12 harg12 arg13 x0 x1 x2 x5 xs0
    xs1)
    = inv (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view := by
  show divf _ (kernelRun0_B.sl.r_126 c i arg1 harg1 arg2 harg2 arg3 harg3 arg6 harg6 arg11 harg11 arg12 harg12 arg13 x0 x1 x2 x5
    xs0 xs1) = _
  rw [den_B]
  rfl

set_option maxHeartbeats 1000000 in
/-- The output's first two column blocks, summed over the new tokens and the chunks. -/
theorem acc0_B :
    (kernelRun0_B.sl.r_203 c i arg1 harg1 arg2 harg2 arg3 harg3 arg6 harg6 arg11 harg11 arg12 harg12 arg13 x0 x1 x2 x5
    xs0 xs1)
    = acc0 (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view (ldC arg11 (harg11.unread xs0)) (ldS arg12 (harg12.unread xs1)) 13 (by omega) := by
  simp only [kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203, kernelRun0_B.sl.r_204, kernelRun0_B.sl.v1534, kernelRun0_B.sl.v1579, kernelRun0_B.sl.v1624, kernelRun0_B.sl.v1669, kernelRun0_B.sl.v1714, kernelRun0_B.sl.v1759, kernelRun0_B.sl.v1804, kernelRun0_B.sl.v1849, kernelRun0_B.sl.v1894, kernelRun0_B.sl.v1939, kernelRun0_B.sl.v1984, kernelRun0_B.sl.v2029, kernelRun0_B.sl.v2074]
  rw [inv_B, exNew_B, ex13_B]
  rfl

set_option maxHeartbeats 1000000 in
/-- The output's second two column blocks, summed over the new tokens and the chunks. -/
theorem acc1_B :
    (kernelRun0_B.sl.r_204 c i arg1 harg1 arg2 harg2 arg3 harg3 arg6 harg6 arg11 harg11 arg12 harg12 arg13 x0 x1 x2 x5
    xs0 xs1)
    = acc1 (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view (ldC arg11 (harg11.unread xs0)) (ldS arg12 (harg12.unread xs1)) 13 (by omega) := by
  simp only [kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203, kernelRun0_B.sl.r_204, kernelRun0_B.sl.v1534, kernelRun0_B.sl.v1579, kernelRun0_B.sl.v1624, kernelRun0_B.sl.v1669, kernelRun0_B.sl.v1714, kernelRun0_B.sl.v1759, kernelRun0_B.sl.v1804, kernelRun0_B.sl.v1849, kernelRun0_B.sl.v1894, kernelRun0_B.sl.v1939, kernelRun0_B.sl.v1984, kernelRun0_B.sl.v2029, kernelRun0_B.sl.v2074]
  rw [inv_B, exNew_B, ex13_B]
  rfl

/-- What the run leaves in the output -/
theorem out_B :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).1
    = outL (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view (ldC arg11 (harg11.unread xs0)) (ldS arg12 (harg12.unread xs1)) := by
  show ([⟨Rect.unit ![0, 0, 384] ![1, 48, 128] inb_S1x48x512_S1x48x128_0_0_384, k0_pay3 (kernelRun0_B.sl.r_204 c i arg1 harg1 arg2 harg2 arg3 harg3 arg6 harg6 arg11 harg11 arg12 harg12 arg13 x0 x1 x2 x5
    xs0 xs1)⟩,
    ⟨Rect.unit ![0, 0, 256] ![1, 48, 128] inb_S1x48x512_S1x48x128_0_0_256, k0_pay2 (kernelRun0_B.sl.r_204 c i arg1 harg1 arg2 harg2 arg3 harg3 arg6 harg6 arg11 harg11 arg12 harg12 arg13 x0 x1 x2 x5
    xs0 xs1)⟩,
    ⟨Rect.unit ![0, 0, 128] ![1, 48, 128] inb_S1x48x512_S1x48x128_0_0_128, k0_pay1 (kernelRun0_B.sl.r_203 c i arg1 harg1 arg2 harg2 arg3 harg3 arg6 harg6 arg11 harg11 arg12 harg12 arg13 x0 x1 x2 x5
    xs0 xs1)⟩,
    ⟨Rect.unit ![0, 0, 0] S1x48x128.size inb_S1x48x512_S1x48x128_0_0_0, k0_pay365 (truncf .bf16 (extractStridedSlice S48x128 ![0, 0] (kernelRun0_B.sl.r_203 c i arg1 harg1 arg2 harg2 arg3 harg3 arg6 harg6 arg11 harg11 arg12 harg12 arg13 x0 x1 x2 x5
    xs0 xs1) slices_S96x256_o0_0_S48x128) bitsLt_bf16_f32)⟩]
    : List (View.Piece (Elt F) S1x48x512 .bf16)) = _
  rw [acc0_B, acc1_B]
  rfl

/-- and in the log-sum-exp. -/
theorem lse_B :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).2.1
    = lseL (ldW arg1 harg1 x0) (ldQ arg2 harg2 x1) (ldR arg3 harg3 x2)
      (scNew (ldQ arg2 harg2 x1) (ldR arg3 harg3 x2) i (ldN arg6 harg6 x5) (ldC arg11 (harg11.unread xs0)) (ldS arg12 (harg12.unread xs1))) arg13.view := by
  show ([⟨Rect.unit ![0, 0, 0] S1x48x1.size inb_S1x48x1_S1x48x1_0_0_0,
    k0_pay273 (kernelRun0_B.sl.r_120 c i arg1 harg1 arg2 harg2 arg3 harg3 arg6 harg6 arg11 harg11 arg12 harg12 x0 x1 x2 x5 xs0 xs1) (kernelRun0_B.sl.r_126 c i arg1 harg1 arg2 harg2 arg3 harg3 arg6 harg6 arg11 harg11 arg12 harg12 arg13 x0 x1 x2 x5
    xs0 xs1) (iota .tc S48x1 32 [0] iota_S48x1_d0_w32) 16#32 k0_pay271 k0_pay272 1#1⟩] : List (View.Piece (Elt F) S1x48x1 .f32)) = _
  rw [m_B, den_B]
  rfl

end Cert.KernelIdeal.Model
end
end
-- ==== Proof.KernelIdeal.Quant.lean ====
/- What the first point makes of the new latents: for each of the four groups of 128 columns, the codes and the scale of
   every token, once with a token in each row (the two results) and once with a token in each lane (the scratch). -/
module

public import proofs.«01_k».proof.Proof.KernelIdeal.RunA

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

/-- The codes of the first group, by rows. -/
def rowCodes0 (x : Vec F S24x512 .bf16) : FVec F S24x128 .fp8e4m3 :=
  k0_pay13 (k0_pay6 x) (k0_pay12 (k0_pay7 x) (k0_pay8 x) (k0_pay9 x) (k0_pay10 x) 23#32)
/-- The codes of the second group, by rows. -/
def rowCodes1 (x : Vec F S24x512 .bf16) : FVec F S24x128 .fp8e4m3 :=
  k0_pay34 (k0_pay25 (k0_pay4 x)) (k0_pay26 (k0_pay4 x)) (k0_pay27 (k0_pay4 x)) (k0_pay31 (k0_pay27 (k0_pay4 x)) k0_pay28 k0_pay29 k0_pay30) (k0_pay32 (k0_pay27 (k0_pay4 x)) k0_pay28 k0_pay29 k0_pay30)
/-- The codes of the third group, by rows. -/
def rowCodes2 (x : Vec F S24x512 .bf16) : FVec F S24x128 .fp8e4m3 :=
  k0_pay53 (k0_pay46 (k0_pay4 x)) (k0_pay52 (k0_pay47 (k0_pay4 x)) (k0_pay48 (k0_pay4 x)) (k0_pay49 (k0_pay4 x)) (k0_pay50 (k0_pay4 x)) k0_pay51) 0#32
/-- The codes of the fourth group, by rows. -/
def rowCodes3 (x : Vec F S24x512 .bf16) : FVec F S24x128 .fp8e4m3 :=
  k0_pay73 (k0_pay67 (k0_pay4 x)) (k0_pay68 (k0_pay4 x)) (k0_pay69 (k0_pay4 x)) (k0_pay70 (k0_pay69 (k0_pay4 x))) (k0_pay71 (k0_pay69 (k0_pay4 x))) 23#32
/-- The scales of the first group, by rows. -/
def rowScale0 (x : Vec F S24x512 .bf16) : FVec F S24x1 .f32 :=
  k0_pay14 (k0_pay11 (k0_pay7 x) (k0_pay8 x) (k0_pay9 x) (k0_pay10 x) 23#32)
/-- The scales of the second group, by rows. -/
def rowScale1 (x : Vec F S24x512 .bf16) : FVec F S24x1 .f32 :=
  k0_pay35 (k0_pay26 (k0_pay4 x)) (k0_pay27 (k0_pay4 x)) (k0_pay31 (k0_pay27 (k0_pay4 x)) k0_pay28 k0_pay29 k0_pay30) (k0_pay32 (k0_pay27 (k0_pay4 x)) k0_pay28 k0_pay29 k0_pay30)
/-- The scales of the third group, by rows. -/
def rowScale2 (x : Vec F S24x512 .bf16) : FVec F S24x1 .f32 :=
  k0_pay54 (k0_pay52 (k0_pay47 (k0_pay4 x)) (k0_pay48 (k0_pay4 x)) (k0_pay49 (k0_pay4 x)) (k0_pay50 (k0_pay4 x)) k0_pay51)
/-- The scales of the fourth group, by rows. -/
def rowScale3 (x : Vec F S24x512 .bf16) : FVec F S24x1 .f32 :=
  k0_pay74 (k0_pay68 (k0_pay4 x)) (k0_pay69 (k0_pay4 x)) (k0_pay70 (k0_pay69 (k0_pay4 x))) (k0_pay71 (k0_pay69 (k0_pay4 x))) 23#32
/-- The codes of the first group, by lanes. -/
def laneCodes0 (x : Vec F S512x128 .bf16) : FVec F S128x128 .fp8e4m3 :=
  k0_pay23 (k0_pay15 (k0_pay5 x)) (k0_pay16 (k0_pay5 x)) (k0_pay21 (k0_pay17 (k0_pay5 x)) (k0_pay18 (k0_pay5 x)) (k0_pay19 (k0_pay5 x)) (k0_pay20 (k0_pay5 x)))
/-- The codes of the second group, by lanes. -/
def laneCodes1 (x : Vec F S512x128 .bf16) : FVec F S128x128 .fp8e4m3 :=
  k0_pay44 (k0_pay43 (k0_pay36 (k0_pay5 x)) (k0_pay37 (k0_pay36 (k0_pay5 x))) (k0_pay38 (k0_pay36 (k0_pay5 x))) (k0_pay39 (k0_pay36 (k0_pay5 x))) (k0_pay40 (k0_pay36 (k0_pay5 x))) (k0_pay41 (k0_pay36 (k0_pay5 x))))
/-- The codes of the third group, by lanes. -/
def laneCodes2 (x : Vec F S512x128 .bf16) : FVec F S128x128 .fp8e4m3 :=
  k0_pay65 (k0_pay55 (k0_pay5 x)) (k0_pay56 (k0_pay5 x)) (k0_pay61 (k0_pay57 (k0_pay5 x)) (k0_pay58 (k0_pay5 x)) (k0_pay59 (k0_pay5 x)) (k0_pay60 (k0_pay5 x))) (k0_pay62 (k0_pay57 (k0_pay5 x)) (k0_pay58 (k0_pay5 x)) (k0_pay59 (k0_pay5 x)) (k0_pay60 (k0_pay5 x))) k0_pay63
/-- The codes of the fourth group, by lanes. -/
def laneCodes3 (x : Vec F S512x128 .bf16) : FVec F S128x128 .fp8e4m3 :=
  k0_pay83 (k0_pay82 (k0_pay75 (k0_pay5 x)) (k0_pay76 (k0_pay5 x)) (k0_pay77 (k0_pay5 x)) (k0_pay78 (k0_pay5 x)) (k0_pay79 (k0_pay5 x)) (k0_pay80 (k0_pay5 x)))
/-- The scales of the first group, by lanes. -/
def laneScale0 (x : Vec F S512x128 .bf16) : FVec F S1x128 .f32 :=
  k0_pay24 (k0_pay16 (k0_pay5 x)) (k0_pay21 (k0_pay17 (k0_pay5 x)) (k0_pay18 (k0_pay5 x)) (k0_pay19 (k0_pay5 x)) (k0_pay20 (k0_pay5 x)))
/-- The scales of the second group, by lanes. -/
def laneScale1 (x : Vec F S512x128 .bf16) : FVec F S1x128 .f32 :=
  k0_pay45 (k0_pay42 (k0_pay37 (k0_pay36 (k0_pay5 x))) (k0_pay38 (k0_pay36 (k0_pay5 x))) (k0_pay39 (k0_pay36 (k0_pay5 x))) (k0_pay40 (k0_pay36 (k0_pay5 x))) (k0_pay41 (k0_pay36 (k0_pay5 x)))) 127#32
/-- The scales of the third group, by lanes. -/
def laneScale2 (x : Vec F S512x128 .bf16) : FVec F S1x128 .f32 :=
  k0_pay66 (k0_pay56 (k0_pay5 x)) (k0_pay61 (k0_pay57 (k0_pay5 x)) (k0_pay58 (k0_pay5 x)) (k0_pay59 (k0_pay5 x)) (k0_pay60 (k0_pay5 x))) (k0_pay62 (k0_pay57 (k0_pay5 x)) (k0_pay58 (k0_pay5 x)) (k0_pay59 (k0_pay5 x)) (k0_pay60 (k0_pay5 x))) k0_pay63
/-- The scales of the fourth group, by lanes. -/
def laneScale3 (x : Vec F S512x128 .bf16) : FVec F S1x128 .f32 :=
  k0_pay84 (k0_pay81 (k0_pay76 (k0_pay5 x)) (k0_pay77 (k0_pay5 x)) (k0_pay78 (k0_pay5 x)) (k0_pay79 (k0_pay5 x)) (k0_pay80 (k0_pay5 x)))
/-- The pieces of the result that holds the codes, last first, -/
def codesL (x : Vec F S24x512 .bf16) : List (View.Piece (Elt F) S24x512 .fp8e4m3) :=
  [⟨Rect.unit ![0, 384] S24x128.size inb_S24x512_S24x128_0_384, rowCodes3 x⟩,
   ⟨Rect.unit ![0, 256] S24x128.size inb_S24x512_S24x128_0_256, rowCodes2 x⟩,
   ⟨Rect.unit ![0, 128] S24x128.size inb_S24x512_S24x128_0_128, rowCodes1 x⟩,
   ⟨Rect.unit ![0, 0] S24x128.size inb_S24x512_S24x128_0_0, rowCodes0 x⟩]
/-- of the one that holds the scales, -/
def scalesL (x : Vec F S24x512 .bf16) : List (View.Piece (Elt F) S24x4 .f32) :=
  [⟨Rect.unit ![0, 3] S24x1.size inb_S24x4_S24x1_0_3, rowScale3 x⟩,
   ⟨Rect.unit ![0, 2] S24x1.size inb_S24x4_S24x1_0_2, rowScale2 x⟩,
   ⟨Rect.unit ![0, 1] S24x1.size inb_S24x4_S24x1_0_1, rowScale1 x⟩,
   ⟨Rect.unit ![0, 0] S24x1.size inb_S24x4_S24x1_0_0, rowScale0 x⟩]
/-- and of the two scratches. -/
def ncL (x : Vec F S512x128 .bf16) : List (View.Piece (Elt F) S512x128 .fp8e4m3) :=
  [⟨Rect.unit ![384, 0] S128x128.size inb_S512x128_S128x128_384_0, laneCodes3 x⟩,
   ⟨Rect.unit ![256, 0] S128x128.size inb_S512x128_S128x128_256_0, laneCodes2 x⟩,
   ⟨Rect.unit ![128, 0] S128x128.size inb_S512x128_S128x128_128_0, laneCodes1 x⟩,
   ⟨Rect.unit ![0, 0] S128x128.size inb_S512x128_S128x128_0_0, laneCodes0 x⟩]
/-- The scales fill four of eight rows. -/
def nsL (x : Vec F S512x128 .bf16) : List (View.Piece (Elt F) S8x128 .f32) :=
  [⟨Rect.unit ![3, 0] S1x128.size inb_S8x128_S1x128_3_0, laneScale3 x⟩,
   ⟨Rect.unit ![2, 0] S1x128.size inb_S8x128_S1x128_2_0, laneScale2 x⟩,
   ⟨Rect.unit ![1, 0] S1x128.size inb_S8x128_S1x128_1_0, laneScale1 x⟩,
   ⟨Rect.unit ![0, 0] S1x128.size inb_S8x128_S1x128_0_0, laneScale0 x⟩]

variable (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32)

/-- The first point stores these pieces. -/
theorem codes_A : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.2.1 = codesL (View.readAt (Elt F) arg4.view (Rect.unit ![0, 0] S24x512.size inb_S24x512_S24x512_0_0).toLoadRect (harg4.unread x3)) := by rfl
theorem scales_A : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.2.2.1 = scalesL (View.readAt (Elt F) arg4.view (Rect.unit ![0, 0] S24x512.size inb_S24x512_S24x512_0_0).toLoadRect (harg4.unread x3)) := by rfl
theorem nc_A : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.2.2.2.1 = ncL (View.readAt (Elt F) arg5.view (Rect.unit ![0, 0] S512x128.size inb_S512x128_S512x128_0_0).toLoadRect (harg5.unread x4)) := by rfl
theorem ns_A : (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.2.2.2.2.1 = nsL (View.readAt (Elt F) arg5.view (Rect.unit ![0, 0] S512x128.size inb_S512x128_S512x128_0_0).toLoadRect (harg5.unread x4)) := by rfl
theorem hs0_A : kernelRun0_A.sl.HS0_4 c arg5 harg5 x4 = ncL (View.readAt (Elt F) arg5.view (Rect.unit ![0, 0] S512x128.size inb_S512x128_S512x128_0_0).toLoadRect (harg5.unread x4)) := by rfl
theorem hs1_A : kernelRun0_A.sl.HS1_4 c arg5 harg5 x4 = nsL (View.readAt (Elt F) arg5.view (Rect.unit ![0, 0] S512x128.size inb_S512x128_S512x128_0_0).toLoadRect (harg5.unread x4)) := by rfl

end Cert.KernelIdeal.Model
end
end
-- ==== Proof.KernelIdeal.Closed.lean ====
/- What one pass leaves in the two attention outputs, from its input blocks and the new tokens' codes and scales: the
   loads read the whole buffers, and of the eight rows of scales only the four that are stored matter. -/
module

public import proofs.«01_k».proof.Proof.KernelIdeal.SameA
public import proofs.«01_k».proof.Proof.KernelIdeal.SameB
public import proofs.«01_k».proof.Proof.KernelIdeal.Quant
public import Idealize.ShloMosaic.Lib.Pipeline.Value

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

/-- A load of all of a whole buffer gives what the buffer holds. -/
theorem readAt_all {s : Shape} {e : EltTy} (m : Memref sig .tc .vmem s e) (h : m.IsWhole) (X : s.Idx → Elt F e)
    {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread]
  exact View.ld_unit_zero ho inb X

theorem zero2 : (![0, 0] : Fin 2 → ℕ) = fun _ => 0 := by funext a; fin_cases a <;> rfl
theorem zero3 : (![0, 0, 0] : Fin 3 → ℕ) = fun _ => 0 := by funext a; fin_cases a <;> rfl

theorem ldW_eq (arg1 : Memref sig .tc .vmem S52x168x128 .i32) (harg1 : arg1.IsWhole) (x0 : Vec F S52x168x128 .i32) :
    (ldW arg1 harg1 x0 : (r : Rect S52x168x128) → r.shape.Idx → Elt F .i32) = fun r => View.ld x0 r := by
  funext r
  show View.readAt (Elt F) arg1.view r.toLoadRect (harg1.unread x0) = _
  rw [View.readAt_eq_ld, harg1.read_unread]
theorem ldQ_eq (arg2 : Memref sig .tc .vmem S1x48x512 .bf16) (harg2 : arg2.IsWhole) (x1 : Vec F S1x48x512 .bf16) :
    ldQ arg2 harg2 x1 = x1 := readAt_all arg2 harg2 x1 zero3 _
theorem ldR_eq (arg3 : Memref sig .tc .vmem S1x48x64 .bf16) (harg3 : arg3.IsWhole) (x2 : Vec F S1x48x64 .bf16) :
    ldR arg3 harg3 x2 = x2 := readAt_all arg3 harg3 x2 zero3 _
theorem ldN_eq (arg6 : Memref sig .tc .vmem S64x128 .bf16) (harg6 : arg6.IsWhole) (x5 : Vec F S64x128 .bf16) :
    ldN arg6 harg6 x5 = x5 := readAt_all arg6 harg6 x5 zero2 _
theorem ldC_eq (arg11 : Memref sig .tc .vmem S512x128 .fp8e4m3) (harg11 : arg11.IsWhole) (d : Vec F S512x128 .fp8e4m3) :
    ldC arg11 (harg11.unread d) = d := readAt_all arg11 harg11 d zero2 _
theorem ldS_eq (arg12 : Memref sig .tc .vmem S8x128 .f32) (harg12 : arg12.IsWhole) (d : Vec F S8x128 .f32) :
    ldS arg12 (harg12.unread d) = d := readAt_all arg12 harg12 d zero2 _

/-- Two scale arrays that agree on the four rows that are stored. -/
def Agree (ns ns' : Vec F S8x128 .f32) : Prop := ∀ y : S8x128.Idx, (y 0).val < 4 → ns y = ns' y

/-- So a pass sees the same of both. -/
theorem Agree.slice {ns ns' : Vec F S8x128 .f32} (h : Agree ns ns') (g : ℕ) (hg : g < 4) (hs : S8x128.Slices ![g, 0] S1x128) :
    extractStridedSlice S1x128 ![g, 0] ns hs = extractStridedSlice S1x128 ![g, 0] ns' hs := by
  funext j
  unfold extractStridedSlice
  refine h _ ?_
  show g + (j 0).val < 4
  have : (j 0).val < 1 := (j 0).isLt
  omega

theorem Agree.slice' {ns ns' : Vec F S8x128 .f32} (h : Agree ns ns') (g : ℕ) (hg : g < 4) (hs : S8x128.Slices ![g, 0] S1x128) :
    extractStridedSlice S1x128 ![g, 0] (k0_pay276 ns) hs = extractStridedSlice S1x128 ![g, 0] (k0_pay276 ns') hs :=
  congrArg (fun s => truncf .bf16 s bitsLt_bf16_f32) (h.slice g hg hs)

theorem scNew_congr (q : Vec F S1x48x512 .bf16) (qr : Vec F S1x48x64 .bf16) (i : grid0.Coords) (nrt : Vec F S64x128 .bf16)
    (nc : Vec F S512x128 .fp8e4m3) {ns ns' : Vec F S8x128 .f32} (h : Agree ns ns') :
    scNew q qr i nrt nc ns = scNew q qr i nrt nc ns' := by
  unfold scNew k0_pay91
  dsimp only
  rw [h.slice 0 (by omega), h.slice 1 (by omega), h.slice 2 (by omega), h.slice 3 (by omega)]

theorem acc0_congr (W : (r : Rect S52x168x128) → r.shape.Idx → Elt F .i32) (q : Vec F S1x48x512 .bf16) (qr : Vec F S1x48x64 .bf16)
    (sn : FVec F S48x128 .f32) (v : View sig .tc .vmem S48x6656 .f32) (nc : Vec F S512x128 .fp8e4m3) {ns ns' : Vec F S8x128 .f32}
    (h : Agree ns ns') (n : ℕ) (hn : n ≤ 13) : acc0 W q qr sn v nc ns n hn = acc0 W q qr sn v nc ns' n hn := by
  induction n with
  | zero =>
    unfold acc0 k0_pay277
    dsimp only
    rw [h.slice' 0 (by omega), h.slice' 1 (by omega)]
  | succ n ih => unfold acc0; rw [ih]

theorem acc1_congr (W : (r : Rect S52x168x128) → r.shape.Idx → Elt F .i32) (q : Vec F S1x48x512 .bf16) (qr : Vec F S1x48x64 .bf16)
    (sn : FVec F S48x128 .f32) (v : View sig .tc .vmem S48x6656 .f32) (nc : Vec F S512x128 .fp8e4m3) {ns ns' : Vec F S8x128 .f32}
    (h : Agree ns ns') (n : ℕ) (hn : n ≤ 13) : acc1 W q qr sn v nc ns n hn = acc1 W q qr sn v nc ns' n hn := by
  induction n with
  | zero =>
    unfold acc1 k0_pay278 k0_pay279
    dsimp only
    rw [h.slice' 2 (by omega), h.slice' 3 (by omega)]
  | succ n ih => unfold acc1; rw [ih]

theorem outL_congr (W : (r : Rect S52x168x128) → r.shape.Idx → Elt F .i32) (q : Vec F S1x48x512 .bf16) (qr : Vec F S1x48x64 .bf16)
    (sn : FVec F S48x128 .f32) (v : View sig .tc .vmem S48x6656 .f32) (nc : Vec F S512x128 .fp8e4m3) {ns ns' : Vec F S8x128 .f32}
    (h : Agree ns ns') : outL W q qr sn v nc ns = outL W q qr sn v nc ns' := by
  unfold outL
  rw [acc0_congr W q qr sn v nc h, acc1_congr W q qr sn v nc h]

theorem mem_row (g : ℕ) (inb : ∀ a, (![g, 0] : Fin 2 → ℕ) a + S1x128.size a ≤ S8x128.size a) (y : S8x128.Idx) (e : (y 0).val = g) :
    y ∈ (Rect.unit (s := S8x128) ![g, 0] S1x128.size inb).set := by
  have h1 : (y 1).val < 128 := (y 1).isLt
  rw [Rect.mem_set_unit]
  intro a
  fin_cases a
  · exact ⟨by show g ≤ (y 0).val; omega, by show (y 0).val < g + 1; omega⟩
  · exact ⟨by show 0 ≤ (y 1).val; omega, by show (y 1).val < 0 + 128; omega⟩

/-- The four rows are stored, whatever was there before. -/
theorem mem_nsL (x : Vec F S512x128 .bf16) (y : S8x128.Idx) (hy : (y 0).val < 4) : ∃ p ∈ nsL x, y ∈ p.1.set := by
  unfold nsL
  rcases (by omega : (y 0).val = 0 ∨ (y 0).val = 1 ∨ (y 0).val = 2 ∨ (y 0).val = 3) with e | e | e | e
  · exact ⟨_, List.mem_cons_of_mem _ (List.mem_cons_of_mem _ (List.mem_cons_of_mem _ List.mem_cons_self)), mem_row 0 inb_S8x128_S1x128_0_0 y e⟩
  · exact ⟨_, List.mem_cons_of_mem _ (List.mem_cons_of_mem _ List.mem_cons_self), mem_row 1 inb_S8x128_S1x128_1_0 y e⟩
  · exact ⟨_, List.mem_cons_of_mem _ List.mem_cons_self, mem_row 2 inb_S8x128_S1x128_2_0 y e⟩
  · exact ⟨_, List.mem_cons_self, mem_row 3 inb_S8x128_S1x128_3_0 y e⟩

theorem agree_read (v : View sig .tc .vmem S8x128 .f32) (f : v.ty.Contents (Elt F)) (x : Vec F S512x128 .bf16) :
    Agree (v.read (Elt F) (v.writes (Elt F) f (nsL x))) (View.canon (nsL x)) :=
  fun y hy => View.read_writes_apply_eq_canon v f y (nsL x) (mem_nsL x y hy)

theorem agree_ldS (arg12 : Memref sig .tc .vmem S8x128 .f32) (f : arg12.view.ty.Contents (Elt F)) (x : Vec F S512x128 .bf16) :
    Agree (ldS arg12 (arg12.view.writes (Elt F) f (nsL x))) (View.canon (nsL x)) := by
  have e : ldS arg12 (arg12.view.writes (Elt F) f (nsL x)) = arg12.view.read (Elt F) (arg12.view.writes (Elt F) f (nsL x)) := by
    show View.readAt (Elt F) arg12.view _ _ = _
    rw [View.readAt_eq_ld]
    exact View.ld_unit_zero zero2 _ _
  rw [e]
  exact agree_read _ _ _

/-- The codes read back are the pieces just stored. -/
theorem readCov_all (v : View sig .tc .vmem S512x128 .fp8e4m3) (L : List (View.Piece (Elt F) S512x128 .fp8e4m3)) :
    v.readCov L (Rect.unit ![0, 0] S512x128.size inb_S512x128_S512x128_0_0).toLoadRect = View.canon L := by
  rw [View.readCov_eq_canon']
  exact View.ld_unit_zero zero2 inb_S512x128_S512x128_0_0 (View.canon L)

/-- The output's and the log-sum-exp's block, from the pass's blocks and the new tokens' codes and scales. -/
def outV (x0 : Vec F S52x168x128 .i32) (x1 : Vec F S1x48x512 .bf16) (x2 : Vec F S1x48x64 .bf16) (i : grid0.Coords) (x5 : Vec F S64x128 .bf16)
    (v : View sig .tc .vmem S48x6656 .f32) (nc : Vec F S512x128 .fp8e4m3) (ns : Vec F S8x128 .f32) : List (View.Piece (Elt F) S1x48x512 .bf16) :=
  outL (fun r => View.ld x0 r) x1 x2 (scNew x1 x2 i x5 nc ns) v nc ns
def lseV (x0 : Vec F S52x168x128 .i32) (x1 : Vec F S1x48x512 .bf16) (x2 : Vec F S1x48x64 .bf16) (i : grid0.Coords) (x5 : Vec F S64x128 .bf16)
    (v : View sig .tc .vmem S48x6656 .f32) (nc : Vec F S512x128 .fp8e4m3) (ns : Vec F S8x128 .f32) : List (View.Piece (Elt F) S1x48x1 .f32) :=
  lseL (fun r => View.ld x0 r) x1 x2 (scNew x1 x2 i x5 nc ns) v

section
variable (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32)

theorem out_A' :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).1 = outV x0 x1 x2 i x5 arg13.view (View.canon (ncL x4)) (View.canon (nsL x4)) := by
  have hs := agree_ldS arg12 (harg12.unread xs1) x4
  rw [out_A, kernelRun0_A.sl.v50, hs0_A, hs1_A, readAt_all arg5 harg5 x4 zero2, readCov_all]
  unfold outV
  rw [ldW_eq, ldQ_eq, ldR_eq, ldN_eq, scNew_congr x1 x2 i x5 _ hs, outL_congr _ _ _ _ _ _ hs]

theorem lse_A' :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.1 = lseV x0 x1 x2 i x5 arg13.view (View.canon (ncL x4)) (View.canon (nsL x4)) := by
  have hs := agree_ldS arg12 (harg12.unread xs1) x4
  rw [lse_A, kernelRun0_A.sl.v50, hs0_A, hs1_A, readAt_all arg5 harg5 x4 zero2, readCov_all]
  unfold lseV
  rw [ldW_eq, ldQ_eq, ldR_eq, ldN_eq, scNew_congr x1 x2 i x5 _ hs]

end

section
variable (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : ¬k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs0 : Vec F S512x128 .fp8e4m3) (xs1 : Vec F S8x128 .f32)

theorem out_B' {ns : Vec F S8x128 .f32} (hs : Agree xs1 ns) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).1 = outV x0 x1 x2 i x5 arg13.view xs0 ns := by
  rw [out_B, ldC_eq, ldS_eq, ldW_eq, ldQ_eq, ldR_eq, ldN_eq, scNew_congr x1 x2 i x5 xs0 hs, outL_congr _ _ _ _ _ _ hs]
  rfl

theorem lse_B' {ns : Vec F S8x128 .f32} (hs : Agree xs1 ns) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).2.1 = lseV x0 x1 x2 i x5 arg13.view xs0 ns := by
  rw [lse_B, ldC_eq, ldS_eq, ldW_eq, ldQ_eq, ldR_eq, ldN_eq, scNew_congr x1 x2 i x5 xs0 hs]
  rfl

end

end Cert.KernelIdeal.Model
end
end
-- ==== Proof.KernelIdeal.Runs.lean ====
/- The two runs of the body with what they leave written as the model: the outputs hold the pieces of `outV` and `lseV`. -/
module

public import proofs.«01_k».proof.Proof.KernelIdeal.Closed
public import Idealize.ShloMosaic.Lib.Claim

@[expose] public section

set_option maxRecDepth 16384

noncomputable section

namespace Cert.KernelIdeal.Gen
open Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces that a point stores cover each result's block. -/
theorem cover6 (x0 : Vec F S52x168x128 .i32) (x1 : Vec F S1x48x512 .bf16) (x2 : Vec F S1x48x64 .bf16) (i : grid0.Coords) (x5 : Vec F S64x128 .bf16)
    (v : View sig .tc .vmem S48x6656 .f32) (nc : Vec F S512x128 .fp8e4m3) (ns : Vec F S8x128 .f32) (y : S1x48x512.Idx) :
    ∃ p ∈ outV x0 x1 x2 i x5 v nc ns, y ∈ p.1.set := View.cover_of_tiledL (outV x0 x1 x2 i x5 v nc ns) S1x48x128.size (by sl_kernel_rfl) y
theorem cover7 (x0 : Vec F S52x168x128 .i32) (x1 : Vec F S1x48x512 .bf16) (x2 : Vec F S1x48x64 .bf16) (i : grid0.Coords) (x5 : Vec F S64x128 .bf16)
    (v : View sig .tc .vmem S48x6656 .f32) (nc : Vec F S512x128 .fp8e4m3) (ns : Vec F S8x128 .f32) (y : S1x48x1.Idx) :
    ∃ p ∈ lseV x0 x1 x2 i x5 v nc ns, y ∈ p.1.set := View.cover_of_tiledL (lseV x0 x1 x2 i x5 v nc ns) S1x48x1.size (by sl_kernel_rfl) y
theorem cover8 (x : Vec F S24x512 .bf16) (y : S24x512.Idx) : ∃ p ∈ codesL x, y ∈ p.1.set := View.cover_of_tiledL (codesL x) S24x128.size (by sl_kernel_rfl) y
theorem cover9 (x : Vec F S24x512 .bf16) (y : S24x4.Idx) : ∃ p ∈ scalesL x, y ∈ p.1.set := View.cover_of_tiledL (scalesL x) S24x1.size (by sl_kernel_rfl) y
theorem coverS (x : Vec F S512x128 .bf16) (y : S512x128.Idx) : ∃ p ∈ ncL x, y ∈ p.1.set := View.cover_of_tiledL (ncL x) S128x128.size (by sl_kernel_rfl) y

/-- The first point: it quantises the new tokens into the results and into scratch, and attends as any point does. -/
theorem runA (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs1 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon (outV x0 x1 x2 i x5 arg13.view (View.canon (ncL x4)) (View.canon (nsL x4)))) ∗ owns (c : Thread nD τ) arg8 fullShare (View.canon (lseV x0 x1 x2 i x5 arg13.view (View.canon (ncL x4)) (View.canon (nsL x4)))) ∗ owns (c : Thread nD τ) arg9 fullShare (View.canon (codesL x3)) ∗ owns (c : Thread nD τ) arg10 fullShare (View.canon (scalesL x3)) ∗ owns (c : Thread nD τ) arg11 fullShare (View.canon (ncL x4)) ∗ (∃ d, ⌜Agree d (View.canon (nsL x4))⌝ ∗ owns (c : Thread nD τ) arg12 fullShare d) ∗ (∃ d, owns (c : Thread nD τ) arg13 fullShare d)) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, H8, H9, H10, H11, H12, H13, HK⟩
  iapply ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply HK
  isplitl [H1]; · iexact H1
  isplitl [H2]; · iexact H2
  isplitl [H3]; · iexact H3
  isplitl [H4]; · iexact H4
  isplitl [H5]; · iexact H5
  isplitl [H6]; · iexact H6
  isplitl [H7]
  · icases H7 with ⟨%e, H7⟩
    unfold owns; iexists _; isplitr
    swap; · iexact H7
    ipureintro; rw [out_A' c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1]; exact View.read_writes_eq_canon _ _ _ (cover6 _ _ _ _ _ _ _ _)
  isplitl [H8]
  · icases H8 with ⟨%e, H8⟩
    unfold owns; iexists _; isplitr
    swap; · iexact H8
    ipureintro; rw [lse_A' c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1]; exact View.read_writes_eq_canon _ _ _ (cover7 _ _ _ _ _ _ _ _)
  isplitl [H9]
  · icases H9 with ⟨%e, H9⟩
    unfold owns; iexists _; isplitr
    swap; · iexact H9
    ipureintro; rw [codes_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1, readAt_all arg4 harg4 x3 zero2]; exact View.read_writes_eq_canon _ _ _ (cover8 _)
  isplitl [H10]
  · icases H10 with ⟨%e, H10⟩
    unfold owns; iexists _; isplitr
    swap; · iexact H10
    ipureintro; rw [scales_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1, readAt_all arg4 harg4 x3 zero2]; exact View.read_writes_eq_canon _ _ _ (cover9 _)
  isplitl [H11]
  · icases H11 with ⟨%e, H11⟩
    unfold owns; iexists _; isplitr
    swap; · iexact H11
    ipureintro; rw [nc_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1, readAt_all arg5 harg5 x4 zero2]; exact View.read_writes_eq_canon _ _ _ (coverS _)
  isplitl [H12]
  · iexists _; isplitr
    swap
    · unfold owns; iexists _; isplitr
      swap; · iexact H12
      ipureintro; rfl
    ipureintro; rw [ns_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs1, readAt_all arg5 harg5 x4 zero2]; exact agree_read _ _ _
  icases H13 with ⟨%e, H13⟩
  iexists _; unfold owns; iexists _; isplitr
  swap; · iexact H13
  ipureintro; rfl

/-- A later point: the quantised new tokens come from scratch, as the first point left them. -/
theorem runB (c : Dev nD) (i : grid0.Coords) (arg1 : Memref sig .tc .vmem S52x168x128 .i32) (harg1 : arg1.IsWhole) (arg2 : Memref sig .tc .vmem S1x48x512 .bf16) (harg2 : arg2.IsWhole) (arg3 : Memref sig .tc .vmem S1x48x64 .bf16) (harg3 : arg3.IsWhole) (arg4 : Memref sig .tc .vmem S24x512 .bf16) (harg4 : arg4.IsWhole) (arg5 : Memref sig .tc .vmem S512x128 .bf16) (harg5 : arg5.IsWhole) (arg6 : Memref sig .tc .vmem S64x128 .bf16) (harg6 : arg6.IsWhole) (arg7 : Memref sig .tc .vmem S1x48x512 .bf16) (harg7 : arg7.IsWhole) (arg8 : Memref sig .tc .vmem S1x48x1 .f32) (harg8 : arg8.IsWhole) (arg9 : Memref sig .tc .vmem S24x512 .fp8e4m3) (harg9 : arg9.IsWhole) (arg10 : Memref sig .tc .vmem S24x4 .f32) (harg10 : arg10.IsWhole) (arg11 : Memref sig .tc .vmem S512x128 .fp8e4m3) (harg11 : arg11.IsWhole) (arg12 : Memref sig .tc .vmem S8x128 .f32) (harg12 : arg12.IsWhole) (arg13 : Memref sig .tc .vmem S48x6656 .f32) (harg13 : arg13.IsWhole) (hc0 : ¬k0_cond1 i = 1#1)
    (x0 : Vec F S52x168x128 .i32) (x1 : Vec F S1x48x512 .bf16) (x2 : Vec F S1x48x64 .bf16) (x3 : Vec F S24x512 .bf16) (x4 : Vec F S512x128 .bf16) (x5 : Vec F S64x128 .bf16) (xs0 : Vec F S512x128 .fp8e4m3) (xs1 : Vec F S8x128 .f32) {ns : Vec F S8x128 .f32} (hs : Agree xs1 ns) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xs0 ∗ owns (c : Thread nD τ) arg12 fullShare xs1 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon (outV x0 x1 x2 i x5 arg13.view xs0 ns)) ∗ owns (c : Thread nD τ) arg8 fullShare (View.canon (lseV x0 x1 x2 i x5 arg13.view xs0 ns)) ∗ owns (c : Thread nD τ) arg11 fullShare xs0 ∗ owns (c : Thread nD τ) arg12 fullShare xs1 ∗ (∃ d, owns (c : Thread nD τ) arg13 fullShare d)) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, H8, H11, H12, H13, HK⟩
  iapply ((kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  iintro ⟨H1, H2, H3, H4, H5, H6, H7, H8, H11, H12, H13⟩
  iapply HK
  isplitl [H1]; · iexact H1
  isplitl [H2]; · iexact H2
  isplitl [H3]; · iexact H3
  isplitl [H4]; · iexact H4
  isplitl [H5]; · iexact H5
  isplitl [H6]; · iexact H6
  isplitl [H7]
  · icases H7 with ⟨%e, H7⟩
    unfold owns; iexists _; isplitr
    swap; · iexact H7
    ipureintro; rw [out_B' c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 hs]; exact View.read_writes_eq_canon _ _ _ (cover6 _ _ _ _ _ _ _ _)
  isplitl [H8]
  · icases H8 with ⟨%e, H8⟩
    unfold owns; iexists _; isplitr
    swap; · iexact H8
    ipureintro; rw [lse_B' c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 hs]; exact View.read_writes_eq_canon _ _ _ (cover7 _ _ _ _ _ _ _ _)
  isplitl [H11]; · iexact H11
  isplitl [H12]; · iexact H12
  icases H13 with ⟨%e, H13⟩
  iexists _; unfold owns; iexists _; isplitr
  swap; · iexact H13
  ipureintro; rfl

end Cert.KernelIdeal.Gen

end
-- ==== Proof.KernelIdeal.Frame.lean ====
/- The frame of `KernelIdeal`, with what the body leaves: at every point the two attention outputs hold the model's
   pieces, the codes and the scales are as the first point stored them, and so is the scratch they are read from. So
   every run ends, leaves the argument arrays unchanged, and has the results where this module says. -/
module

public import proofs.«01_k».proof.Proof.KernelIdeal.Runs
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S512x128 .fp8e4m3 := Memref.whole cc0_scratch0
abbrev scM0_1 : Memref sig .tc .vmem S8x128 .f32 := Memref.whole cc0_scratch1
abbrev scM0_2 : Memref sig .tc .vmem S48x6656 .f32 := Memref.whole cc0_scratch2

abbrev ms0_0 (t : Fin cfg0.N) : Memref sig .tc .vmem S52x168x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x48x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x48x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x48x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x48x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S24x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x4 .f32 := win0_9.stage (cfg0.slots t 9)
abbrev hs0_9 (t : Fin cfg0.N) : (ms0_9 t).IsWhole := hstage0_9 ((cfg0.slots t 9).cast nbuf0_9)

/-- What the region holds between points: every scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

open Cert.KernelIdeal.Model

/-- The first point. -/
abbrev p0 : Fin cfg0.N := ⟨0, by have : cfg0.N = 8 := N_0; omega⟩
theorem p0_cond : k0_cond1 (grid0.coords p0) = 1#1 := by decide +kernel
theorem eq_p0 : ∀ t : Fin cfg0.N, k0_cond1 (grid0.coords t) = 1#1 → t = p0 := by decide +kernel
theorem pos_of_cond : ∀ t : Fin cfg0.N, ¬k0_cond1 (grid0.coords t) = 1#1 → t.val ≠ 0 := by decide +kernel

/-- The blocks of the point's inputs. -/
abbrev X0 (c : Dev nD) (t : Fin cfg0.N) : Vec F S52x168x128 .i32 := iblk m c 0 t
abbrev X1 (c : Dev nD) (t : Fin cfg0.N) : Vec F S1x48x512 .bf16 := iblk m c 1 t
abbrev X2 (c : Dev nD) (t : Fin cfg0.N) : Vec F S1x48x64 .bf16 := iblk m c 2 t
abbrev X3 (c : Dev nD) (t : Fin cfg0.N) : Vec F S24x512 .bf16 := iblk m c 3 t
abbrev X4 (c : Dev nD) (t : Fin cfg0.N) : Vec F S512x128 .bf16 := iblk m c 4 t
abbrev X5 (c : Dev nD) (t : Fin cfg0.N) : Vec F S64x128 .bf16 := iblk m c 5 t

/-- The new tokens' codes and scales, a token in each lane, as the first point stores them in scratch; -/
def newCodes (c : Dev nD) : Vec F S512x128 .fp8e4m3 := View.canon (ncL (X4 m c p0))
def newScales (c : Dev nD) : Vec F S8x128 .f32 := View.canon (nsL (X4 m c p0))
/-- what each point leaves in the attention outputs, and what the first leaves in the results of the quantiser. -/
def outAt (c : Dev nD) (t : Fin cfg0.N) : Vec F S1x48x512 .bf16 :=
  View.canon (outV (X0 m c t) (X1 m c t) (X2 m c t) (grid0.coords t) (X5 m c t) scM0_2.view (newCodes m c) (newScales m c))
def lseAt (c : Dev nD) (t : Fin cfg0.N) : Vec F S1x48x1 .f32 :=
  View.canon (lseV (X0 m c t) (X1 m c t) (X2 m c t) (grid0.coords t) (X5 m c t) scM0_2.view (newCodes m c) (newScales m c))
def codesOut (c : Dev nD) : Vec F S24x512 .fp8e4m3 := View.canon (codesL (X3 m c p0))
def scalesOut (c : Dev nD) : Vec F S24x4 .f32 := View.canon (scalesL (X3 m c p0))

/-- What is held between points: before the first, every scratch at some contents; after it, the codes' scratch at the
    new tokens' codes and the scales' at the new tokens' scales in the rows that are stored. -/
def PhiS (c : Dev nD) : ℕ → sProp 𝕄
  | 0 => Pipeline.ΦA spec0 c
  | _ + 1 => iprop(iprop(owns (c : Thread nD τ) scM0_0 fullShare (newCodes m c)
      ∗ (∃ d, ⌜Agree d (newScales m c)⌝ ∗ owns (c : Thread nD τ) scM0_1 fullShare d)
      ∗ (∃ d, owns (c : Thread nD τ) scM0_2 fullShare d)) ∗ (∃ r, prngReg c r))

/-- The proof data: the arrays as the region finds them, each input's buffer at its block, the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => lseAt m c t
    | ⟨8, _⟩ => codesOut m c
    | ⟨9, _⟩ => scalesOut m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]

theorem after0_6 (c : Dev nD) (t : Fin cfg0.N) : (dats m 0 c).after 6 t = outAt m c t := by dsimp only [dats]
theorem after0_7 (c : Dev nD) (t : Fin cfg0.N) : (dats m 0 c).after 7 t = lseAt m c t := by dsimp only [dats]
theorem after0_8 (c : Dev nD) (t : Fin cfg0.N) : (dats m 0 c).after 8 t = codesOut m c := by dsimp only [dats]
theorem after0_9 (c : Dev nD) (t : Fin cfg0.N) : (dats m 0 c).after 9 t = scalesOut m c := by dsimp only [dats]
theorem leaves0_6 (c : Dev nD) (t : Fin cfg0.N) : (dats m 0 c).leavesExact 6 t = owns (c : Thread nD τ) (ms0_6 t) fullShare (outAt m c t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (lseAt m c t) := by
  unfold Dat.leavesExact; rw [show cfg0.idle 7 (grid0.coords t) = false from rfl, after0_7]

/-- The codes' and the scales' buffers are fresh before the first point only: each is written back once, at the end. -/
def freshTab : ℕ → Bool
  | 0 => true
  | n + 1 => (0x80 : ℕ).testBit n
theorem fresh0_8 (t : Fin cfg0.N) : cfg0.fresh 8 t.val = freshTab t.val :=
  Pipeline.Cfg.fresh_tab cfg0 8 freshTab rfl (by decide +kernel) t.val (Nat.le_of_lt t.isLt)
theorem fresh0_9 (t : Fin cfg0.N) : cfg0.fresh 9 t.val = freshTab t.val :=
  Pipeline.Cfg.fresh_tab cfg0 9 freshTab rfl (by decide +kernel) t.val (Nat.le_of_lt t.isLt)
theorem freshTab_B : ∀ t : Fin cfg0.N, ¬k0_cond1 (grid0.coords t) = 1#1 → freshTab t.val = false := by decide +kernel
theorem live0_8_A : ∀ t : Fin cfg0.N, k0_cond1 (grid0.coords t) = 1#1 → cfg0.idle 8 (grid0.coords t) = false := by decide +kernel
theorem live0_9_A : ∀ t : Fin cfg0.N, k0_cond1 (grid0.coords t) = 1#1 → cfg0.idle 9 (grid0.coords t) = false := by decide +kernel
theorem idle0_8_B : ∀ t : Fin cfg0.N, ¬k0_cond1 (grid0.coords t) = 1#1 → cfg0.idle 8 (grid0.coords t) = true := by decide +kernel
theorem idle0_9_B : ∀ t : Fin cfg0.N, ¬k0_cond1 (grid0.coords t) = 1#1 → cfg0.idle 9 (grid0.coords t) = true := by decide +kernel

theorem before0_8_B (c : Dev nD) (t : Fin cfg0.N) (h0 : ¬k0_cond1 (grid0.coords t) = 1#1) (d) : (dats m 0 c).before 8 t d = codesOut m c := by
  rw [Dat.before_out_traj _ 8 rfl (fun _ _ => rfl) (fun t _ _ _ => by rw [after0_8, after0_8]) t.val t rfl d,
    if_neg (by rw [fresh0_8, freshTab_B t h0]; exact Bool.false_ne_true), after0_8]
theorem before0_9_B (c : Dev nD) (t : Fin cfg0.N) (h0 : ¬k0_cond1 (grid0.coords t) = 1#1) (d) : (dats m 0 c).before 9 t d = scalesOut m c := by
  rw [Dat.before_out_traj _ 9 rfl (fun _ _ => rfl) (fun t _ _ _ => by rw [after0_9, after0_9]) t.val t rfl d,
    if_neg (by rw [fresh0_9, freshTab_B t h0]; exact Bool.false_ne_true), after0_9]

/-- A buffer that holds what the first point left satisfies the point's post, written back there or not. -/
theorem leaves0_8_A (c : Dev nD) (t : Fin cfg0.N) (h0 : k0_cond1 (grid0.coords t) = 1#1) :
    (dats m 0 c).leavesExact 8 t = owns (c : Thread nD τ) (ms0_8 t) fullShare (codesOut m c) := by
  unfold Dat.leavesExact; rw [live0_8_A t h0, after0_8]
theorem leaves0_9_A (c : Dev nD) (t : Fin cfg0.N) (h0 : k0_cond1 (grid0.coords t) = 1#1) :
    (dats m 0 c).leavesExact 9 t = owns (c : Thread nD τ) (ms0_9 t) fullShare (scalesOut m c) := by
  unfold Dat.leavesExact; rw [live0_9_A t h0, after0_9]
theorem leaves0_8_B (c : Dev nD) (t : Fin cfg0.N) (h0 : ¬k0_cond1 (grid0.coords t) = 1#1) (d) :
    owns (c : Thread nD τ) (ms0_8 t) fullShare ((dats m 0 c).before 8 t d) ⊢ ((dats m 0 c).leavesExact 8 t : sProp 𝕄) := by
  unfold Dat.leavesExact; rw [idle0_8_B t h0]
  cases (cfg0.win 8).flush t
  · iintro H; iexists d; iexact H
  · rw [before0_8_B m c t h0 d, after0_8]
theorem leaves0_9_B (c : Dev nD) (t : Fin cfg0.N) (h0 : ¬k0_cond1 (grid0.coords t) = 1#1) (d) :
    owns (c : Thread nD τ) (ms0_9 t) fullShare ((dats m 0 c).before 9 t d) ⊢ ((dats m 0 c).leavesExact 9 t : sProp 𝕄) := by
  unfold Dat.leavesExact; rw [idle0_9_B t h0]
  cases (cfg0.win 9).flush t
  · iintro H; iexists d; iexact H
  · rw [before0_9_B m c t h0 d, after0_9]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem PhiS_succ (c : Dev nD) (n : ℕ) : PhiS m c (n + 1) = iprop(iprop(owns (c : Thread nD τ) scM0_0 fullShare (newCodes m c)
      ∗ (∃ d, ⌜Agree d (newScales m c)⌝ ∗ owns (c : Thread nD τ) scM0_1 fullShare d)
      ∗ (∃ d, owns (c : Thread nD τ) scM0_2 fullShare d)) ∗ (∃ r, prngReg c r)) := rfl
theorem PhiS_pos (c : Dev nD) (n : ℕ) (h : n ≠ 0) : PhiS m c n = iprop(iprop(owns (c : Thread nD τ) scM0_0 fullShare (newCodes m c)
      ∗ (∃ d, ⌜Agree d (newScales m c)⌝ ∗ owns (c : Thread nD τ) scM0_1 fullShare d)
      ∗ (∃ d, owns (c : Thread nD τ) scM0_2 fullShare d)) ∗ (∃ r, prngReg c r)) := by
  obtain ⟨k, rfl⟩ := Nat.exists_eq_succ_of_ne_zero h; rfl

set_option maxHeartbeats 9600000 in
/-- The body at any point, by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_succ]
  rw [leaves0_0, leaves0_1, leaves0_2, leaves0_3, leaves0_4, leaves0_5, leaves0_6, leaves0_7]
  by_cases h0 : k0_cond1 (grid0.coords t) = 1#1
  · obtain rfl := eq_p0 t h0
    rw [leaves0_8_A m c _ h0, leaves0_9_A m c _ h0, show PhiS m c (p0 : Fin cfg0.N).val = Pipeline.ΦA spec0 c from rfl, PhiA0_eq]
    iintro ⟨⟨⟨HS0, ⟨%ds1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords p0) _ _ _ _ _ _ _ _ _ _ _ _ _ _ _ _ _ _ _ _ _ _ _ _ _ _ h0 (X0 m c p0) (X1 m c p0) (X2 m c p0) (X3 m c p0) (X4 m c p0) (X5 m c p0) ds1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_pos m c t.val (pos_of_cond t h0)]
    iintro ⟨⟨⟨HS0, ⟨%ds1, %hs, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ _ _ _ _ _ _ h0 (X0 m c t) (X1 m c t) (X2 m c t) (X3 m c t) (X4 m c t) (X5 m c t) (newCodes m c) ds1 hs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]
        · iexists _; isplitr
          swap; · iexact HS1
          ipureintro; exact hs
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (leaves0_8_B m c t h0 d8); iexact H8
    iapply (leaves0_9_B m c t h0 d9); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨⟨HS0, ⟨%d, %hd, HS1⟩, HS2⟩, Hg⟩
  isplitl [HS0 HS1 HS2]
  · isplitl [HS0]
    · iexists _; iexact HS0
    isplitl [HS1]
    · iexists _; iexact HS1
    iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hs⟩ => ⟨fun c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hs⟩) (run_main_quiescent m ρ)

end Cert.KernelIdeal.Gen

end
-- ==== Proof.Spec.Exponent.lean ====
/- The quantiser's exponent. The kernel finds the exponent field of a float by a binary search over its bits and builds
   a power of two from the field; the reference takes the floor of the logarithm. For the magnitudes that a group of
   bf16 numbers can have the two are the same power of two. -/
module

public import Idealize.ShloMosaic.PureOps.Ideal.Laws
public import Idealize.ShloMosaic.Lib.IdealHost

@[expose] public section

noncomputable section

namespace Cert.Spec

open Idealize.ShloMosaic

/-- One step of the search: the bit is set when the float with that exponent field is still at most `y`. -/
def expStep (y : EReal) (ef bit : BitVec 32) : BitVec 32 :=
  if Ideal.ofBits .f32 ((ef + bit) <<< 23) ≤ y then ef + bit else ef

/-- The exponent field of `y`. -/
def expField (y : EReal) : BitVec 32 :=
  expStep y (expStep y (expStep y (expStep y (expStep y (expStep y (expStep y (expStep y 0 128) 64) 32) 16) 8) 4) 2) 1

/-- The constant that both programs write for 1/448. -/
abbrev recip448 : EReal := Ideal.ofBits .f32 0x3B124925#32

/-- The kernel's exponent of a group whose largest magnitude is `a`, a word, -/
def expWord (a : EReal) : BitVec 32 :=
  if a = 0 then 0 else if expField (a * recip448) = 0 ∨ expField (a * recip448) = 255 then 0 else expField (a * recip448) - 126

/-- the power of two of a word, -/
def pow2 (w : BitVec 32) : EReal := Ideal.ofBits .f32 ((w + 127) <<< 23)

/-- and the reference's exponent. -/
def refExp (a : EReal) : EReal :=
  if a * recip448 < Ideal.ofBits .f32 0x00800000#32 ∨ a * recip448 = Ideal.ofBits .f32 0x7F800000#32 then 0
  else Ideal.liftRound Int.floor (Ideal.div (Ideal.log (a * recip448)) (Ideal.log (Ideal.ofBits .f32 0x40000000#32))) + 1

/-- The float with exponent field `n` and no fraction. -/
def field (n : ℕ) : EReal := Ideal.ofBits .f32 (BitVec.ofNat 32 n <<< 23)

theorem shift_parts (n : ℕ) (h : n ≤ 255) :
    (BitVec.extractLsb' 31 1 (BitVec.ofNat 32 n <<< 23) == 1#1) = false
    ∧ (BitVec.extractLsb' 23 8 (BitVec.ofNat 32 n <<< 23)).toNat = n
    ∧ (BitVec.extractLsb' 0 23 (BitVec.ofNat 32 n <<< 23)).toNat = 0 := by
  have e : (BitVec.ofNat 32 n <<< 23).toNat = n * 8388608 := by
    rw [BitVec.toNat_shiftLeft, BitVec.toNat_ofNat, Nat.shiftLeft_eq]; omega
  refine ⟨?_, ?_, ?_⟩
  · rw [beq_eq_false_iff_ne]
    intro hc
    have := congrArg BitVec.toNat hc
    rw [BitVec.extractLsb'_toNat, e, Nat.shiftRight_eq_div_pow] at this
    simp at this; omega
  · rw [BitVec.extractLsb'_toNat, e, Nat.shiftRight_eq_div_pow]; omega
  · rw [BitVec.extractLsb'_toNat, e, Nat.shiftRight_eq_div_pow]; omega

theorem field_normal (n : ℕ) (h1 : 1 ≤ n) (h2 : n ≤ 254) : field n = (((2 : ℝ) ^ ((n : ℤ) - 127) : ℝ) : EReal) := by
  obtain ⟨a, b, c⟩ := shift_parts n (by omega)
  have h3 : n ≠ 2 ^ 8 - 1 := by omega
  have h4 : n ≠ 0 := by omega
  have key : (1 : ℝ) * ((2 ^ 23 + 0 : ℕ) : ℝ) * (2 : ℝ) ^ ((n : ℤ) - (2 ^ (8 - 1) - 1) - ((23 : ℕ) : ℤ)) = (2 : ℝ) ^ ((n : ℤ) - 127) := by
    rw [show ((n : ℤ) - 127) = 23 + ((n : ℤ) - (2 ^ (8 - 1) - 1) - ((23 : ℕ) : ℤ)) by push_cast; ring, zpow_add₀ (by norm_num)]
    norm_num
  rw [← key]
  unfold field Ideal.ofBits Ideal.ieee
  dsimp only
  rw [a, b, c, if_neg h3, if_neg h4, if_neg Bool.false_ne_true]

theorem field_top : field 255 = ⊤ := by
  obtain ⟨a, b, c⟩ := shift_parts 255 (by omega)
  simp only [field, Ideal.ofBits, Ideal.ieee, Nat.reduceAdd, a, b, c]
  simp

/-- What the search knows once the bits from `d` up are settled. -/
def Inv (y : EReal) (d : ℕ) (ef : BitVec 32) : Prop :=
  ∃ n : ℕ, ef = BitVec.ofNat 32 n ∧ n + d ≤ 256 ∧ (n = 0 ∨ field n ≤ y) ∧ (n + d = 256 ∨ y < field (n + d))

theorem Inv.step {y : EReal} (d e : ℕ) (he : e = 2 * d) {ef : BitVec 32} (h : Inv y e ef) (bit : BitVec 32)
    (hb : bit = BitVec.ofNat 32 d) : Inv y d (expStep y ef bit) := by
  obtain ⟨n, rfl, hn, hl, hu⟩ := h
  subst he hb
  have es : BitVec.ofNat 32 n + BitVec.ofNat 32 d = BitVec.ofNat 32 (n + d) := (BitVec.ofNat_add n d).symm
  unfold expStep
  rw [es]
  by_cases hc : Ideal.ofBits .f32 (BitVec.ofNat 32 (n + d) <<< 23) ≤ y
  · rw [if_pos hc]
    exact ⟨n + d, rfl, by omega, .inr hc, hu.elim (fun h => .inl (by omega)) fun h => .inr (by rwa [show n + d + d = n + 2 * d by ring])⟩
  · rw [if_neg hc]
    exact ⟨n, rfl, by omega, hl, .inr (not_le.mp hc)⟩

theorem expField_spec (y : EReal) : Inv y 1 (expField y) := by
  have h8 : Inv y 256 0 := ⟨0, rfl, by omega, .inl rfl, .inl rfl⟩
  exact Inv.step 1 2 rfl (Inv.step 2 4 rfl (Inv.step 4 8 rfl (Inv.step 8 16 rfl (Inv.step 16 32 rfl
    (Inv.step 32 64 rfl (Inv.step 64 128 rfl (Inv.step 128 256 rfl h8 128 rfl) 64 rfl) 32 rfl) 16 rfl) 8 rfl) 4 rfl) 2 rfl) 1 rfl

theorem recip448_val : recip448 = ((9586981 * (2 : ℝ) ^ (-32 : ℤ) : ℝ) : EReal) := by
  simp [recip448, Ideal.ofBits, Ideal.ieee, -EReal.coe_mul]

theorem two_val : Ideal.ofBits .f32 0x40000000#32 = ((2 : ℝ) : EReal) := by
  simp [Ideal.ofBits, Ideal.ieee, -EReal.coe_mul]; norm_num

theorem inf_val : Ideal.ofBits .f32 0x7F800000#32 = ⊤ := by
  simp [Ideal.ofBits, Ideal.ieee]

theorem maxBf16_val : Ideal.ofBits .bf16 0x7F7F#16 = ((255 * (2 : ℝ) ^ (120 : ℤ) : ℝ) : EReal) := by
  simp [Ideal.ofBits, Ideal.ieee, -EReal.coe_mul]

theorem least_eq : Ideal.ofBits .f32 0x00800000#32 = field 1 := rfl

/-- The power of two of an exponent in range. -/
theorem pow2_ofInt (k : ℤ) (h1 : -126 ≤ k) (h2 : k ≤ 127) : pow2 (BitVec.ofInt 32 k) = (((2 : ℝ) ^ k : ℝ) : EReal) := by
  have e : BitVec.ofInt 32 k + 127 = BitVec.ofNat 32 (k + 127).toNat := by
    apply BitVec.eq_of_toNat_eq
    rw [BitVec.toNat_add, BitVec.toNat_ofInt, BitVec.toNat_ofNat, show (127 : BitVec 32).toNat = 127 from rfl]
    omega
  have := field_normal (k + 127).toNat (by omega) (by omega)
  unfold pow2
  rw [e]
  refine this.trans ?_
  rw [Int.toNat_of_nonneg (by omega)]
  congr 2; ring

theorem exp2_int (k : ℤ) : Ideal.exp2 (((k : ℝ)) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

/-- A magnitude that a group of bf16 numbers can have: at most the largest finite one, or infinite. -/
def Magnitude (a : EReal) : Prop := 0 ≤ a ∧ (a ≤ Ideal.ofBits .bf16 0x7F7F#16 ∨ a = ⊤)

theorem exponent (a : EReal) (ha : Magnitude a) :
    ∃ k : ℤ, -126 ≤ k ∧ k ≤ 126 ∧ expWord a = BitVec.ofInt 32 k ∧ refExp a = ((k : ℝ) : EReal) := by
  obtain ⟨h0, hM⟩ := ha
  obtain ⟨n, hn, hle, hl, hu⟩ := expField_spec (a * recip448)
  have c0 : (0 : EReal) < recip448 := by rw [recip448_val]; exact EReal.coe_pos.mpr (by positivity)
  by_cases hz : n = 0
  · refine ⟨0, by omega, by omega, ?_, ?_⟩
    · unfold expWord
      have : expField (a * recip448) = 0 := by rw [hn, hz]; rfl
      by_cases h : a = 0
      · rw [if_pos h]; rfl
      · rw [if_neg h, if_pos (.inl this)]; rfl
    · unfold refExp
      have h := hu.resolve_left (by omega)
      rw [hz] at h
      rw [least_eq, if_pos (.inl h)]
      exact EReal.coe_zero.symm.trans (by norm_num)
  have hl := hl.resolve_left hz
  by_cases ht : n = 255
  · have hy : a * recip448 = ⊤ := by
      rw [ht, field_top] at hl; exact top_le_iff.mp hl
    refine ⟨0, by omega, by omega, ?_, ?_⟩
    · unfold expWord
      have : expField (a * recip448) = 255 := by rw [hn, ht]; rfl
      by_cases h : a = 0
      · rw [if_pos h]; rfl
      · rw [if_neg h, if_pos (.inr this)]; rfl
    · unfold refExp
      rw [if_pos (.inr (by rw [hy, inf_val]))]
      exact EReal.coe_zero.symm.trans (by norm_num)
  have hu := hu.resolve_left (by omega)
  -- the group's magnitude is a real number
  have hnt : a ≠ ⊤ := by
    intro h
    rw [h, EReal.top_mul_of_pos c0] at hu
    exact absurd hu (not_lt.mpr le_top)
  have hM := hM.resolve_right hnt
  have hnb : a ≠ ⊥ := fun h => by rw [h] at h0; exact absurd h0 (by simp)
  lift a to ℝ using ⟨hnt, hnb⟩
  have h0' : (0 : ℝ) ≤ a := by exact_mod_cast h0
  rw [maxBf16_val] at hM
  have hM' : a ≤ 255 * (2 : ℝ) ^ (120 : ℤ) := by exact_mod_cast hM
  set r : ℝ := a * (9586981 * (2 : ℝ) ^ (-32 : ℤ)) with hr
  have hy : (a : EReal) * recip448 = (r : EReal) := by rw [recip448_val, hr]; exact (EReal.coe_mul _ _).symm
  rw [hy] at hl hu hn
  rw [field_normal n (by omega) (by omega), EReal.coe_le_coe_iff] at hl
  have hn' : n < 247 := by
    by_contra hc
    have h1 : (2 : ℝ) ^ (120 : ℤ) ≤ (2 : ℝ) ^ ((n : ℤ) - 127) := zpow_le_zpow_right₀ (by norm_num) (by omega)
    have h2 : r ≤ 255 * (2 : ℝ) ^ (120 : ℤ) * (9586981 * (2 : ℝ) ^ (-32 : ℤ)) := by
      rw [hr]; exact mul_le_mul_of_nonneg_right hM' (by positivity)
    have h3 : (255 : ℝ) * (9586981 * (2 : ℝ) ^ (-32 : ℤ)) < 1 := by norm_num
    have h4 : (0 : ℝ) < (2 : ℝ) ^ (120 : ℤ) := by positivity
    nlinarith
  rw [field_normal (n + 1) (by omega) (by omega), EReal.coe_lt_coe_iff] at hu
  have hrpos : 0 < r := lt_of_lt_of_le (by positivity) hl
  have hapos : (a : EReal) ≠ 0 := by
    intro h
    have : a = 0 := by exact_mod_cast h
    rw [hr, this, zero_mul] at hrpos
    exact lt_irrefl _ hrpos
  refine ⟨(n : ℤ) - 126, by omega, by omega, ?_, ?_⟩
  · unfold expWord
    rw [if_neg hapos, hy, hn, if_neg]
    · apply BitVec.eq_of_toNat_eq
      rw [BitVec.toNat_sub, BitVec.toNat_ofInt, BitVec.toNat_ofNat, show (126 : BitVec 32).toNat = 126 from rfl]
      omega
    · rintro (h | h)
      · have := congrArg BitVec.toNat h; simp at this; omega
      · have := congrArg BitVec.toNat h; simp at this; omega
  · unfold refExp
    have hlog2 : 0 < Real.log 2 := Real.log_pos (by norm_num)
    rw [hy, if_neg, two_val]
    · have e1 : Ideal.log (r : EReal) = (Real.log r : EReal) := by
        show (if r ≤ 0 then ⊥ else (Real.log r : EReal)) = _
        rw [if_neg (not_le.mpr hrpos)]
      have e2 : Ideal.log ((2 : ℝ) : EReal) = (Real.log 2 : EReal) := by
        show (if (2 : ℝ) ≤ 0 then ⊥ else (Real.log 2 : EReal)) = _
        rw [if_neg (by norm_num)]
      rw [e1, e2]
      have e3 : Ideal.div (Real.log r : EReal) (Real.log 2 : EReal) = ((Real.log r / Real.log 2 : ℝ) : EReal) := by
        unfold Ideal.div
        rw [if_neg (by exact_mod_cast hlog2.ne'), ← EReal.coe_inv, ← EReal.coe_mul]; rfl
      have e4 : ⌊Real.log r / Real.log 2⌋ = (n : ℤ) - 127 := by
        rw [Int.floor_eq_iff]
        constructor
        · rw [le_div_iff₀ hlog2, ← Real.log_zpow]
          exact Real.log_le_log (by positivity) hl
        · rw [div_lt_iff₀ hlog2, show (((n : ℤ) - 127 : ℤ) : ℝ) + 1 = ((((n + 1 : ℕ) : ℤ) - 127 : ℤ) : ℝ) by push_cast; ring, ← Real.log_zpow]
          exact Real.log_lt_log hrpos hu
      rw [e3]
      show (((⌊Real.log r / Real.log 2⌋ : ℝ)) : EReal) + 1 = _
      rw [e4, show ((n : ℤ) - 126) = ((n : ℤ) - 127) + 1 by ring, Int.cast_add, EReal.coe_add]; norm_num
    · rintro (h | h)
      · rw [least_eq, field_normal 1 (by omega) (by omega), EReal.coe_lt_coe_iff] at h
        have : (2 : ℝ) ^ (((1 : ℕ) : ℤ) - 127) ≤ (2 : ℝ) ^ ((n : ℤ) - 127) := zpow_le_zpow_right₀ (by norm_num) (by omega)
        linarith
      · rw [inf_val] at h; exact absurd h (EReal.coe_ne_top r)

/-- The scale of a group and its inverse, as the reference writes them. -/
def scaleOf (a : EReal) : EReal := Ideal.exp2 (refExp a)
def unscale (a : EReal) : EReal := Ideal.exp2 (0 - refExp a)

/-- The kernel's powers of two are the reference's. -/
theorem pow2_expWord (a : EReal) (ha : Magnitude a) : pow2 (expWord a) = scaleOf a := by
  obtain ⟨k, h1, h2, hw, hr⟩ := exponent a ha
  rw [hw, scaleOf, hr, pow2_ofInt k h1 (by omega), exp2_int]

theorem pow2_neg_expWord (a : EReal) (ha : Magnitude a) : pow2 (0 - expWord a) = unscale a := by
  obtain ⟨k, h1, h2, hw, hr⟩ := exponent a ha
  have e : (0 : BitVec 32) - BitVec.ofInt 32 k = BitVec.ofInt 32 (-k) := by
    rw [BitVec.ofInt_neg]; simp
  have e2 : (0 : EReal) - ((k : ℝ) : EReal) = (((-k : ℤ) : ℝ) : EReal) := by
    rw [zero_sub]; push_cast; simp
  rw [hw, unscale, hr, e, pow2_ofInt (-k) (by omega) (by omega), e2, exp2_int]

/-- A scale is a positive real. -/
theorem scaleOf_pos (a : EReal) (ha : Magnitude a) : ∃ s : ℝ, 0 < s ∧ scaleOf a = (s : EReal) := by
  obtain ⟨k, h1, h2, hw, hr⟩ := exponent a ha
  exact ⟨(2 : ℝ) ^ k, by positivity, by rw [scaleOf, hr, exp2_int]⟩

end Cert.Spec
end
end
-- ==== Proof.Spec.Attend.lean ====
/- What one batch computes, over the extended reals: scores of the cached keys and of the new tokens, their softmax,
   the weighted sum of the keys and its log-sum-exp. -/
module

public import Idealize.ShloMosaic.PureOps.Ideal.Laws
public import Idealize.ShloMosaic.Lib.IdealHost
public import Idealize.ShloMosaic.Lib.Pointwise

@[expose] public section

noncomputable section

namespace Cert.Spec

open Idealize.ShloMosaic

/-- The numbers of one batch. -/
structure Batch where
  K : Fin 6656 → Fin 512 → EReal
  S : Fin 6656 → Fin 4 → EReal
  R : Fin 6656 → Fin 64 → EReal
  B : Fin 6656 → Fin 3 → EReal
  Q : Fin 48 → Fin 512 → EReal
  P : Fin 48 → Fin 64 → EReal
  N : Fin 3 → Fin 512 → EReal
  NS : Fin 3 → Fin 4 → EReal
  NR : Fin 3 → Fin 64 → EReal

/-- The group of a latent coordinate, and the token of a row. -/
abbrev grp (c : Fin 512) : Fin 4 := ⟨c.val / 128, by omega⟩
abbrev tok (r : Fin 48) : Fin 3 := ⟨r.val / 16, by omega⟩

/-- The factor of the scores. -/
abbrev temper : EReal := Ideal.ofBits .f32 0x3D93CD3A#32

/-- A query against a key: the latent part with its scales and the rope part. -/
def dot (q k : Fin 512 → EReal) (s : Fin 4 → EReal) (p r : Fin 64 → EReal) : EReal :=
  ∑ c, q c * (k c * s (grp c)) + ∑ d, p d * r d

namespace Batch
variable (b : Batch)

def cached (r : Fin 48) (k : Fin 6656) : EReal := dot (b.Q r) (b.K k) (b.S k) (b.P r) (b.R k) * temper + b.B k (tok r)
def fresh (r : Fin 48) (t : Fin 3) : EReal :=
  if t.val ≤ r.val / 16 then dot (b.Q r) (b.N t) (b.NS t) (b.P r) (b.NR t) * temper else ⊥
def top (r : Fin 48) : EReal := max (Finset.univ.fold max ⊥ (b.cached r)) (Finset.univ.fold max ⊥ (b.fresh r))
def wc (r : Fin 48) (k : Fin 6656) : EReal := Ideal.exp (b.cached r k - b.top r)
def wf (r : Fin 48) (t : Fin 3) : EReal := Ideal.exp (b.fresh r t - b.top r)
def den (r : Fin 48) : EReal := ∑ k, b.wc r k + ∑ t, b.wf r t
def lse (r : Fin 48) : EReal := b.top r + Ideal.log (b.den r) - Ideal.log (FloatOps.sitofp (F := Ideal) .f32 (BitVec.ofNat 32 (2049 + r.val / 16)))
def out (r : Fin 48) (c : Fin 512) : EReal :=
  ∑ k, Ideal.div (b.wc r k) (b.den r) * (b.K k c * b.S k (grp c))
    + ∑ t, Ideal.div (b.wf r t) (b.den r) * (b.N t c * b.NS t (grp c))

/-- Real numbers, and biases that may be `-∞`. -/
structure Good : Prop where
  K : ∀ k c, ∃ x : ℝ, b.K k c = x
  S : ∀ k g, ∃ x : ℝ, b.S k g = x
  R : ∀ k d, ∃ x : ℝ, b.R k d = x
  B : ∀ k t, b.B k t ≠ ⊤
  Q : ∀ r c, ∃ x : ℝ, b.Q r c = x
  P : ∀ r d, ∃ x : ℝ, b.P r d = x
  N : ∀ t c, ∃ x : ℝ, b.N t c = x
  NS : ∀ t g, ∃ x : ℝ, b.NS t g = x
  NR : ∀ t d, ∃ x : ℝ, b.NR t d = x

end Batch

/-! Sums and products of real numbers. -/

theorem real_mul {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩
theorem real_add {x y : EReal} (hx : ∃ a : ℝ, x = a) (hy : ∃ a : ℝ, y = a) : ∃ a : ℝ, x + y = a := by
  obtain ⟨a, rfl⟩ := hx; obtain ⟨b, rfl⟩ := hy; exact ⟨a + b, (EReal.coe_add a b).symm⟩
theorem real_sum {ι : Type} (s : Finset ι) (f : ι → EReal) (h : ∀ i, ∃ a : ℝ, f i = a) : ∃ a : ℝ, ∑ i ∈ s, f i = a := by
  classical
  induction s using Finset.induction_on with
  | empty => exact ⟨0, by simp⟩
  | insert a s ha ih => rw [Finset.sum_insert ha]; exact real_add (h a) ih

/-- A real factor goes into a sum of real numbers, whatever its sign. -/
theorem mul_sum' {ι : Type} (s : Finset ι) (f : ι → EReal) {x : EReal} (hf : ∀ i, ∃ a : ℝ, f i = a) (hx : ∃ a : ℝ, x = a) :
    (∑ i ∈ s, f i) * x = ∑ i ∈ s, f i * x := by
  classical
  induction s using Finset.induction_on with
  | empty => simp
  | insert a s ha ih =>
    rw [Finset.sum_insert ha, Finset.sum_insert ha, ← ih]
    obtain ⟨p, hp⟩ := hf a
    obtain ⟨q, hq⟩ := real_sum s f hf
    obtain ⟨y, rfl⟩ := hx
    rw [hp, hq]
    exact_mod_cast add_mul p q y

/-- The token a row belongs to, as a word. -/
abbrev tokWord (r : BitVec 32) : BitVec 32 :=
  Scalar.select
    (IntOp.andi
      (IntOp.cmpi CmpIPredicate.ne
        (IntOp.subi (BitVec.setWidth 32 (IntOp.cmpi CmpIPredicate.sgt r 0#32))
          (BitVec.setWidth 32 (IntOp.cmpi CmpIPredicate.slt r 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector r 16#32) 0#32))
    (IntOp.subi (IntOp.divsi ArithUnit.vector r 16#32) 1#32)
    (IntOp.divsi ArithUnit.vector r 16#32)

theorem tokWord_eq : ∀ r : Fin 48, tokWord (BitVec.ofNat 32 r.val) = BitVec.ofNat 32 (r.val / 16) := by decide +kernel

theorem negInf_val : Ideal.ofBits .f32 0xFF800000#32 = ⊥ := by
  simp [Ideal.ofBits, Ideal.ieee]

/-- A sum over the latent coordinates, group by group. -/
theorem sum_groups (f : Fin 512 → EReal) :
    ∑ c, f c = ∑ u : Fin 128, f ⟨u.val, by omega⟩ + ∑ u : Fin 128, f ⟨128 + u.val, by omega⟩
      + ∑ u : Fin 128, f ⟨256 + u.val, by omega⟩ + ∑ u : Fin 128, f ⟨384 + u.val, by omega⟩ := by
  rw [Fin.sum_univ_tiles 4 128 rfl f, Fin.sum_univ_four]
  congr 1

/-- The scores as they are summed when the scales multiply whole groups. -/
theorem dot_groups (q k : Fin 512 → EReal) (s : Fin 4 → EReal) (p r : Fin 64 → EReal) (hq : ∀ c, ∃ a : ℝ, q c = a)
    (hk : ∀ c, ∃ a : ℝ, k c = a) (hs : ∀ g, ∃ a : ℝ, s g = a) :
    ∑ d, p d * r d + (∑ u : Fin 128, q ⟨u.val, by omega⟩ * k ⟨u.val, by omega⟩) * s 0
      + (∑ u : Fin 128, q ⟨128 + u.val, by omega⟩ * k ⟨128 + u.val, by omega⟩) * s 1
      + (∑ u : Fin 128, q ⟨256 + u.val, by omega⟩ * k ⟨256 + u.val, by omega⟩) * s 2
      + (∑ u : Fin 128, q ⟨384 + u.val, by omega⟩ * k ⟨384 + u.val, by omega⟩) * s 3 = dot q k s p r := by
  have e : ∀ (g : Fin 4) (f : Fin 128 → Fin 512), (∀ u, (f u).val / 128 = g.val) →
      (∑ u, q (f u) * k (f u)) * s g = ∑ u, q (f u) * (k (f u) * s (grp (f u))) := by
    intro g f hf
    rw [mul_sum' _ _ (fun u => real_mul (hq _) (hk _)) (hs g)]
    refine Finset.sum_congr rfl fun u _ => ?_
    rw [mul_assoc, show grp (f u) = g from Fin.ext (hf u)]
  rw [e 0 (fun u => ⟨u.val, by omega⟩) (fun u => by show u.val / 128 = 0; omega),
    e 1 (fun u => ⟨128 + u.val, by omega⟩) (fun u => by show (128 + u.val) / 128 = 1; omega),
    e 2 (fun u => ⟨256 + u.val, by omega⟩) (fun u => by show (256 + u.val) / 128 = 2; omega),
    e 3 (fun u => ⟨384 + u.val, by omega⟩) (fun u => by show (384 + u.val) / 128 = 3; omega)]
  unfold dot
  rw [sum_groups (fun c => q c * (k c * s (grp c)))]
  generalize (∑ u : Fin 128, q ⟨u.val, _⟩ * (k ⟨u.val, _⟩ * s (grp ⟨u.val, _⟩))) = a0
  generalize (∑ u : Fin 128, q ⟨128 + u.val, _⟩ * (k ⟨128 + u.val, _⟩ * s (grp ⟨128 + u.val, _⟩))) = a1
  generalize (∑ u : Fin 128, q ⟨256 + u.val, _⟩ * (k ⟨256 + u.val, _⟩ * s (grp ⟨256 + u.val, _⟩))) = a2
  generalize (∑ u : Fin 128, q ⟨384 + u.val, _⟩ * (k ⟨384 + u.val, _⟩ * s (grp ⟨384 + u.val, _⟩))) = a3
  ac_rfl

theorem fold_max_le {ι : Type} [Fintype ι] (f : ι → EReal) (z : EReal) : Finset.univ.fold max ⊥ f ≤ z ↔ ∀ i, f i ≤ z := by
  rw [Finset.fold_max_le]; simp

theorem le_fold_max {ι : Type} [Fintype ι] (f : ι → EReal) (i : ι) : f i ≤ Finset.univ.fold max ⊥ f :=
  (fold_max_le f _).1 le_rfl i

theorem fold_max_ne_top {ι : Type} [Fintype ι] (f : ι → EReal) (h : ∀ i, f i ≠ ⊤) : Finset.univ.fold max ⊥ f ≠ ⊤ := by
  rw [← lt_top_iff_ne_top, Finset.fold_max_lt]
  exact ⟨bot_lt_top, fun i _ => lt_top_iff_ne_top.2 (h i)⟩

theorem eq_of_le_iff {x y : EReal} (h : ∀ z, x ≤ z ↔ y ≤ z) : x = y := le_antisymm ((h y).2 le_rfl) ((h x).1 le_rfl)

theorem Batch.top_le (b : Batch) (r : Fin 48) (z : EReal) : b.top r ≤ z ↔ (∀ k, b.cached r k ≤ z) ∧ ∀ t, b.fresh r t ≤ z := by
  unfold Batch.top
  rw [max_le_iff, fold_max_le, fold_max_le]

/-! The sum of the exponentials is not zero. -/

theorem temper_real : ∃ a : ℝ, temper = a := by
  unfold temper Ideal.ofBits Ideal.ieee
  exact ⟨_, rfl⟩

theorem dot_real (q k : Fin 512 → EReal) (s : Fin 4 → EReal) (p r : Fin 64 → EReal) (hq : ∀ c, ∃ a : ℝ, q c = a)
    (hk : ∀ c, ∃ a : ℝ, k c = a) (hs : ∀ g, ∃ a : ℝ, s g = a) (hp : ∀ c, ∃ a : ℝ, p c = a) (hr : ∀ c, ∃ a : ℝ, r c = a) :
    ∃ a : ℝ, dot q k s p r = a :=
  real_add (real_sum _ _ fun c => real_mul (hq c) (real_mul (hk c) (hs _))) (real_sum _ _ fun d => real_mul (hp d) (hr d))

theorem Batch.den_ne_zero {b : Batch} (h : b.Good) (r : Fin 48) : b.den r ≠ 0 := by
  have hf : ∃ a : ℝ, b.fresh r 0 = a := by
    unfold Batch.fresh
    rw [if_pos (show (0 : Fin 3).val ≤ r.val / 16 from Nat.zero_le _)]
    exact real_mul (dot_real _ _ _ _ _ (h.Q r) (h.N 0) (h.NS 0) (h.P r) (h.NR 0)) temper_real
  have hc : ∀ k, b.cached r k ≠ ⊤ := by
    intro k
    obtain ⟨a, ha⟩ := real_mul (dot_real _ _ _ _ _ (h.Q r) (h.K k) (h.S k) (h.P r) (h.R k)) temper_real
    unfold Batch.cached
    rw [ha]
    exact EReal.add_ne_top (EReal.coe_ne_top a) (h.B k _)
  have hft : ∀ t, b.fresh r t ≠ ⊤ := by
    intro t
    unfold Batch.fresh
    split_ifs
    · obtain ⟨a, ha⟩ := real_mul (dot_real _ _ _ _ _ (h.Q r) (h.N t) (h.NS t) (h.P r) (h.NR t)) temper_real
      rw [ha]; exact EReal.coe_ne_top a
    · exact bot_ne_top
  have hm : b.top r ≠ ⊤ := by
    unfold Batch.top
    rw [← lt_top_iff_ne_top, max_lt_iff, lt_top_iff_ne_top, lt_top_iff_ne_top]
    exact ⟨fold_max_ne_top _ hc, fold_max_ne_top _ hft⟩
  have hmb : b.top r ≠ ⊥ := by
    obtain ⟨a, ha⟩ := hf
    intro e
    have := ((b.top_le r _).1 le_rfl).2 0
    rw [ha, e] at this
    exact absurd (le_bot_iff.1 this) (EReal.coe_ne_bot a)
  have hpos : ∀ x : EReal, 0 ≤ Ideal.exp x := by
    intro x
    induction x using EReal.rec with
    | bot => exact le_refl _
    | coe x => exact EReal.coe_nonneg.2 (Real.exp_pos x).le
    | top => exact le_top
  have h0 : 0 < b.wf r 0 := by
    obtain ⟨a, ha⟩ := hf
    unfold Batch.wf
    rw [ha]
    generalize b.top r = m at hm hmb
    lift m to ℝ using ⟨hm, hmb⟩
    exact EReal.coe_pos.2 (Real.exp_pos (a - m))
  have : 0 < b.den r := by
    unfold Batch.den
    refine lt_of_lt_of_le (lt_of_lt_of_le h0 (Finset.single_le_sum (f := b.wf r) (fun t _ => hpos _) (Finset.mem_univ 0))) ?_
    exact le_add_of_nonneg_left (Finset.sum_nonneg fun k _ => hpos _)
  exact this.ne'

/-- Three lanes side by side. -/
abbrev slot (o : ℕ) (ho : o + 3 ≤ 128) (t : Fin 3) : Fin 128 := ⟨o + t.val, by omega⟩

/-- A sum over lanes of which only three, side by side, count. -/
theorem sum_lanes (o : ℕ) (ho : o + 3 ≤ 128) (f : Fin 128 → EReal) (h : ∀ l : Fin 128, (l.val < o ∨ o + 3 ≤ l.val) → f l = 0) :
    ∑ l, f l = ∑ t : Fin 3, f (slot o ho t) := by
  symm
  refine Fintype.sum_of_injective (fun t : Fin 3 => slot o ho t) ?_ _ _ ?_ fun t => rfl
  · intro a b e
    have := congrArg Fin.val e
    exact Fin.ext (by simpa using this)
  · intro l hl
    refine h l ?_
    by_contra hc
    refine hl ⟨⟨l.val - o, by omega⟩, Fin.ext ?_⟩
    show o + (l.val - o) = l.val
    omega

/-- A sum over the keys, chunk by chunk, four tiles of 128 to a chunk. -/
theorem sum_keys (f : Fin 6656 → EReal) :
    ∑ k, f k = ∑ c : Fin 13, ∑ j : Fin 512, f ⟨512 * c.val + j.val, by omega⟩ := by
  rw [Fin.sum_univ_tiles 13 512 rfl f]
  refine Finset.sum_congr rfl fun c _ => Finset.sum_congr rfl fun j _ => congrArg f (Fin.ext ?_)
  show c.val * 512 + j.val = 512 * c.val + j.val
  omega

end Cert.Spec
end
end
-- ==== Proof.Spec.Quantiser.lean ====
/- The quantiser of a group of 128 numbers: its largest magnitude, its codes and that they are real numbers. -/
module

public import proofs.«01_k».proof.Proof.Spec.Exponent
public import proofs.«01_k».proof.Proof.Spec.Attend

@[expose] public section

noncomputable section

namespace Cert.Spec

open Idealize.ShloMosaic

/-- The largest magnitude of a group. -/
def magn (f : Fin 128 → EReal) : EReal := Finset.univ.fold max ⊥ fun l => max (f l) (-(f l))

/-- The code of `x` in a group of largest magnitude `a`. -/
def codeOf (x a : EReal) : EReal :=
  min (Ideal.ofBits .f32 0x43E00000#32) (max (Ideal.ofBits .f32 0xC3E00000#32) (x * unscale a))

theorem magn_magnitude (f : Fin 128 → EReal) (h : ∀ l, max (f l) (-(f l)) ≤ Ideal.ofBits .bf16 0x7F7F#16 ∨ max (f l) (-(f l)) = ⊤) :
    Magnitude (magn f) := by
  have habs : ∀ x : EReal, 0 ≤ max x (-x) := by
    intro x
    rcases le_total 0 x with hx | hx
    · exact le_max_of_le_left hx
    · exact le_max_of_le_right (EReal.neg_nonneg.2 hx)
  refine ⟨le_trans (habs (f 0)) (le_fold_max (fun l => max (f l) (-(f l))) 0), ?_⟩
  by_cases ht : ∃ l, max (f l) (-(f l)) = ⊤
  · obtain ⟨l, hl⟩ := ht
    exact .inr (top_le_iff.1 (hl ▸ le_fold_max (fun l => max (f l) (-(f l))) l))
  · refine .inl ((fold_max_le _ _).2 fun l => (h l).resolve_right fun e => ht ⟨l, e⟩)

theorem codeOf_real (x a : EReal) : ∃ y : ℝ, codeOf x a = y := by
  have h1 : ∃ y : ℝ, Ideal.ofBits .f32 0x43E00000#32 = y := by unfold Ideal.ofBits Ideal.ieee; exact ⟨_, rfl⟩
  have h2 : ∃ y : ℝ, Ideal.ofBits .f32 0xC3E00000#32 = y := by unfold Ideal.ofBits Ideal.ieee; exact ⟨_, rfl⟩
  obtain ⟨p, hp⟩ := h1
  obtain ⟨q, hq⟩ := h2
  unfold codeOf
  rw [hp, hq]
  generalize x * unscale a = z
  induction z using EReal.rec with
  | bot => exact ⟨min p q, by rw [max_eq_left bot_le]; exact (EReal.coe_strictMono.monotone.map_min).symm⟩
  | coe z => exact ⟨min p (max q z), by rw [EReal.coe_strictMono.monotone.map_min, EReal.coe_strictMono.monotone.map_max]⟩
  | top => exact ⟨p, by rw [max_eq_right le_top, min_eq_left le_top]⟩

theorem scaleOf_real (a : EReal) (ha : Magnitude a) : ∃ s : ℝ, scaleOf a = s := by
  obtain ⟨s, _, e⟩ := scaleOf_pos a ha
  exact ⟨s, e⟩

/-- The code of entry `u` of group `g` of a vector of 512, and the scale of the group. -/
abbrev codeIn (f : Fin 512 → EReal) (g : Fin 4) (u : Fin 128) : EReal :=
  codeOf (f ⟨128 * g.val + u.val, by omega⟩) (magn fun l => f ⟨128 * g.val + l.val, by omega⟩)
abbrev scaleIn (f : Fin 512 → EReal) (g : Fin 4) : EReal := scaleOf (magn fun l => f ⟨128 * g.val + l.val, by omega⟩)

/-- Every group of a vector has a magnitude that the quantiser is exact at. -/
def Fair (f : Fin 512 → EReal) : Prop := ∀ g : Fin 4, Magnitude (magn fun l => f ⟨128 * g.val + l.val, by omega⟩)

end Cert.Spec
end
end
-- ==== Proof.Spec.Args.lean ====
/- The five argument arrays read as batches: a packed key's parts, the queries and the new tokens, quantised. -/
module

public import proofs.«01_k».proof.Proof.Spec.Quantiser

@[expose] public section

noncomputable section

namespace Cert.Spec

open Idealize.ShloMosaic Idealize.ShloMosaic.Tactic

abbrev Keys := Vec Ideal ⟨3, ![416, 168, 128]⟩ .i32
abbrev Queries := Vec Ideal ⟨4, ![8, 3, 16, 512]⟩ .bf16
abbrev RopeQueries := Vec Ideal ⟨4, ![8, 3, 16, 64]⟩ .bf16
abbrev Latents := Vec Ideal ⟨3, ![8, 3, 512]⟩ .bf16
abbrev Ropes := Vec Ideal ⟨3, ![8, 3, 64]⟩ .bf16

/-- Word `r` of key `k` of batch `i`. -/
def word (a0 : Keys) (i : Fin 8) (k : Fin 6656) (r : Fin 168) : BitVec 32 :=
  a0 (ix3 (⟨i.val * 52 + k.val / 128, by omega⟩ : Fin 416) r (⟨k.val % 128, by omega⟩ : Fin 128))

/-- The new latent of a token. -/
abbrev latent (a3 : Latents) (i : Fin 8) (t : Fin 3) : Fin 512 → EReal := fun c => a3 (ix3 i t c)

/-- Batch `i` of the arguments. -/
def ofArgs (a0 : Keys) (a1 : Queries) (a2 : RopeQueries) (a3 : Latents) (a4 : Ropes) (i : Fin 8) : Batch where
  K k c := Ideal.ofBits .fp8e4m3 ((word a0 i k ⟨c.val / 4, by omega⟩).extractLsb' (8 * (c.val % 4)) 8)
  S k g := Ideal.ofBits .f32 (word a0 i k ⟨128 + g.val, by omega⟩)
  R k d := Ideal.ofBits .bf16 ((word a0 i k ⟨132 + d.val / 2, by omega⟩).extractLsb' (16 * (d.val % 2)) 16)
  B k t := Ideal.ofBits .f32 (word a0 i k ⟨164 + t.val, by omega⟩)
  Q r c := a1 (ix4 i (⟨r.val / 16, by omega⟩ : Fin 3) (⟨r.val % 16, by omega⟩ : Fin 16) c)
  P r d := a2 (ix4 i (⟨r.val / 16, by omega⟩ : Fin 3) (⟨r.val % 16, by omega⟩ : Fin 16) d)
  N t c := codeIn (latent a3 i t) (grp c) ⟨c.val % 128, by omega⟩
  NS t g := scaleIn (latent a3 i t) g
  NR t d := a4 (ix3 i t d)

/-- Ordinary numbers: real queries, rope parts, codes and scales, biases below `+∞`, and latents that a bf16 number can
    be. -/
structure Ordinary (a0 : Keys) (a1 : Queries) (a2 : RopeQueries) (a3 : Latents) (a4 : Ropes) : Prop where
  query : ∀ i t h c, ∃ x : ℝ, a1 (ix4 i t h c) = (x : EReal)
  ropeQuery : ∀ i t h d, ∃ x : ℝ, a2 (ix4 i t h d) = (x : EReal)
  newRope : ∀ i t d, ∃ x : ℝ, a4 (ix3 i t d) = (x : EReal)
  latent : ∀ i t c, max (a3 (ix3 i t c) : EReal) (-(a3 (ix3 i t c) : EReal)) ≤ Ideal.ofBits .bf16 0x7F7F#16
    ∨ max (a3 (ix3 i t c) : EReal) (-(a3 (ix3 i t c) : EReal)) = ⊤
  code : ∀ (a : Fin 416) (r l : Fin 128) (j : Fin 4), ∃ x : ℝ,
    Ideal.ofBits .fp8e4m3 ((a0 (ix3 a (⟨r.val, by omega⟩ : Fin 168) l)).extractLsb' (j.val * 8) 8) = (x : EReal)
  scale : ∀ (a : Fin 416) (g : Fin 4) (l : Fin 128), ∃ x : ℝ, Ideal.ofBits .f32 (a0 (ix3 a (⟨128 + g.val, by omega⟩ : Fin 168) l)) = (x : EReal)
  rope : ∀ (a : Fin 416) (r : Fin 32) (l : Fin 128) (j : Fin 2), ∃ x : ℝ,
    Ideal.ofBits .bf16 ((a0 (ix3 a (⟨132 + r.val, by omega⟩ : Fin 168) l)).extractLsb' (j.val * 16) 16) = (x : EReal)
  bias : ∀ (a : Fin 416) (t : Fin 3) (l : Fin 128), Ideal.ofBits .f32 (a0 (ix3 a (⟨164 + t.val, by omega⟩ : Fin 168) l)) ≠ ⊤

variable {a0 : Keys} {a1 : Queries} {a2 : RopeQueries} {a3 : Latents} {a4 : Ropes}

theorem Ordinary.fair (h : Ordinary a0 a1 a2 a3 a4) (i : Fin 8) (t : Fin 3) : Fair (Cert.Spec.latent a3 i t) :=
  fun g => magn_magnitude _ fun l => h.latent i t _

theorem Ordinary.good (h : Ordinary a0 a1 a2 a3 a4) (i : Fin 8) : (ofArgs a0 a1 a2 a3 a4 i).Good where
  K k c := by
    obtain ⟨x, hx⟩ := h.code (⟨i.val * 52 + k.val / 128, by omega⟩ : Fin 416) ⟨c.val / 4, by omega⟩ (⟨k.val % 128, by omega⟩ : Fin 128) ⟨c.val % 4, by omega⟩
    exact ⟨x, by rw [← hx, Nat.mul_comm]; rfl⟩
  S k g := h.scale _ g _
  R k d := by
    obtain ⟨x, hx⟩ := h.rope (⟨i.val * 52 + k.val / 128, by omega⟩ : Fin 416) ⟨d.val / 2, by omega⟩ (⟨k.val % 128, by omega⟩ : Fin 128) ⟨d.val % 2, by omega⟩
    exact ⟨x, by rw [← hx, Nat.mul_comm]; rfl⟩
  B k t := h.bias _ t _
  Q r c := h.query _ _ _ _
  P r d := h.ropeQuery _ _ _ _
  N t c := codeOf_real _ _
  NS t g := scaleOf_real _ (h.fair i t g)
  NR t d := h.newRope _ _ _

/-! The four results. -/

/-- The latent of new token `r`, three to a batch. -/
abbrev rowLatent (a3 : Latents) (r : Fin 24) : Fin 512 → EReal :=
  latent a3 (⟨r.val / 3, by omega⟩ : Fin 8) (⟨r.val % 3, by omega⟩ : Fin 3)

theorem rowLatent_at (a3 : Latents) (b : Fin 8) (t : Fin 3) : rowLatent a3 ⟨b.val * 3 + t.val, by omega⟩ = latent a3 b t := by
  have e0 : (⟨(b.val * 3 + t.val) / 3, by omega⟩ : Fin 8) = b := Fin.ext (by simp only; omega)
  have e1 : (⟨(b.val * 3 + t.val) % 3, by omega⟩ : Fin 3) = t := Fin.ext (by simp only; omega)
  unfold rowLatent
  simp only [e0, e1]

/-- The attention's output and the logarithm of its sum; -/
def outOf (a0 : Keys) (a1 : Queries) (a2 : RopeQueries) (a3 : Latents) (a4 : Ropes) : Vec Ideal ⟨3, ![8, 48, 512]⟩ .bf16 :=
  fun i => (ofArgs a0 a1 a2 a3 a4 (i 0)).out (i 1) (i 2)
def lseOf (a0 : Keys) (a1 : Queries) (a2 : RopeQueries) (a3 : Latents) (a4 : Ropes) : Vec Ideal ⟨3, ![8, 48, 1]⟩ .f32 :=
  fun i => (ofArgs a0 a1 a2 a3 a4 (i 0)).lse (i 1)
/-- the new tokens' codes and scales. -/
def codesOf (a3 : Latents) : Vec Ideal ⟨2, ![24, 512]⟩ .fp8e4m3 :=
  fun i => codeIn (rowLatent a3 (i 0)) (grp (i 1)) ⟨(show Fin 512 from i 1).val % 128, Nat.mod_lt _ (by decide)⟩
def scalesOf (a3 : Latents) : Vec Ideal ⟨2, ![24, 4]⟩ .f32 := fun i => scaleIn (rowLatent a3 (i 0)) (i 1)

end Cert.Spec
end
end
-- ==== Proof.Spec.Ordinary.lean ====
/- The precondition, which a printed function states as eight arrays of truth values, read entry by entry. -/
module

public import proofs.«01_k».proof.Pre_ordinary
public import proofs.«01_k».proof.Proof.Spec.Args
public import Idealize.ShloMosaic.Lib.Affine
public import Idealize.ShloMosaic.Lib.Decide
public import Idealize.ShloMosaic.Lib.BitcastConvert

@[expose] public section

set_option maxRecDepth 16384

noncomputable section

namespace Cert.Pre_ordinary

open Idealize.ShloMosaic Idealize.ShloMosaic.Tactic Cert.Spec

/-- The printed function's side conditions. -/
instance facts : Facts where
  slices_S416x168x128_S416x128x128_0_0_0 := by decide
  splits_S416x128x128_w32_S416x128x128x4_w8 := by decide
  slices_S416x168x128_S416x4x128_0_128_0 := by decide
  slices_S416x168x128_S416x32x128_0_132_0 := by decide
  splits_S416x32x128_w32_S416x32x128x2_w16 := by decide
  slices_S416x168x128_S416x3x128_0_164_0 := by decide
  bcast_S_S8x3x16x512 := by decide
  bcast_S_S8x3x16x64 := by decide
  bcast_S_S8x3x64 := by decide
  bcast_S_S8x3x512 := by decide
  bcast_S_S416x128x128x4 := by decide
  bcast_S_S416x4x128 := by decide
  bcast_S_S416x32x128x2 := by decide
  bcast_S_S416x3x128 := by decide

theorem inf_bf16 : Ideal.ofBits .bf16 0x7F80#16 = ⊤ := by simp [Ideal.ofBits, Ideal.ieee]

theorem of_bit {p : Prop} [Decidable p] (h : BitVec.ofBool (decide p) = 1#1) : p := by
  by_contra hp
  rw [decide_eq_false hp] at h
  exact absurd h (by decide)

theorem real_of_abs {x : EReal} (h : max x (-x) < ⊤) : ∃ r : ℝ, x = r := by
  induction x using EReal.rec with
  | bot => simp at h
  | coe r => exact ⟨r, rfl⟩
  | top => simp at h

/-- A byte that is not one of the two NaNs is a number. -/
theorem code_real (b : BitVec 8) (h1 : b ≠ 127#8) (h2 : b ≠ 255#8) : ∃ x : ℝ, Ideal.ofBits .fp8e4m3 b = x := by
  have hn : ∀ b : BitVec 8, b ≠ 127#8 → b ≠ 255#8 → ¬((b.extractLsb' 3 4).toNat = 15 ∧ (b.extractLsb' 0 3).toNat = 7) := by decide
  have h := hn b h1 h2
  show ∃ x : ℝ, Ideal.e4m3fn b = x
  unfold Ideal.e4m3fn
  simp only [if_neg h]
  split_ifs <;> exact ⟨_, rfl⟩

variable (a0 : Keys) (a1 : Queries) (a2 : RopeQueries) (a3 : Latents) (a4 : Ropes)

theorem query_bit (i : Fin 8) (t : Fin 3) (h : Fin 16) (c : Fin 512) : (fn (F := Ideal) a0 a1 a2 a3 a4).1 (ix4 i t h c)
    = BitVec.ofBool (decide (max (a1 (ix4 i t h c) : EReal) (-(a1 (ix4 i t h c) : EReal)) < Ideal.ofBits .bf16 0x7F80#16)) := rfl
theorem ropeQuery_bit (i : Fin 8) (t : Fin 3) (h : Fin 16) (c : Fin 64) : (fn (F := Ideal) a0 a1 a2 a3 a4).2.1 (ix4 i t h c)
    = BitVec.ofBool (decide (max (a2 (ix4 i t h c) : EReal) (-(a2 (ix4 i t h c) : EReal)) < Ideal.ofBits .bf16 0x7F80#16)) := rfl
theorem newRope_bit (i : Fin 8) (t : Fin 3) (c : Fin 64) : (fn (F := Ideal) a0 a1 a2 a3 a4).2.2.1 (ix3 i t c)
    = BitVec.ofBool (decide (max (a4 (ix3 i t c) : EReal) (-(a4 (ix3 i t c) : EReal)) < Ideal.ofBits .bf16 0x7F80#16)) := rfl
theorem latent_bit (i : Fin 8) (t : Fin 3) (c : Fin 512) : (fn (F := Ideal) a0 a1 a2 a3 a4).2.2.2.1 (ix3 i t c)
    = BitVec.ofBool (decide (max (a3 (ix3 i t c) : EReal) (-(a3 (ix3 i t c) : EReal)) ≤ Ideal.ofBits .bf16 0x7F7F#16))
      ||| BitVec.ofBool (decide (max (a3 (ix3 i t c) : EReal) (-(a3 (ix3 i t c) : EReal)) = Ideal.ofBits .bf16 0x7F80#16)) := rfl
theorem code_bit (a : Fin 416) (r l : Fin 128) (j : Fin 4) : (fn (F := Ideal) a0 a1 a2 a3 a4).2.2.2.2.1 (ix4 a r l j)
    = BitVec.ofBool ((a0 (ix3 a (⟨r.val, by omega⟩ : Fin 168) l)).extractLsb' (j.val * 8) 8 != 127#8)
      &&& BitVec.ofBool ((a0 (ix3 a (⟨r.val, by omega⟩ : Fin 168) l)).extractLsb' (j.val * 8) 8 != 255#8) := by
  show IntOp.andi (IntOp.cmpi .ne _ _) (IntOp.cmpi .ne _ _) = _
  pointwise
  rfl
theorem scale_bit (a : Fin 416) (g : Fin 4) (l : Fin 128) : (fn (F := Ideal) a0 a1 a2 a3 a4).2.2.2.2.2.1 (ix3 a g l)
    = BitVec.ofBool (decide (max (Ideal.ofBits .f32 (a0 (ix3 a (⟨128 + g.val, by omega⟩ : Fin 168) l)))
      (-(Ideal.ofBits .f32 (a0 (ix3 a (⟨128 + g.val, by omega⟩ : Fin 168) l)))) < Ideal.ofBits .f32 0x7F800000#32)) := by
  show FloatOps.cmpf (F := Ideal) _ (FloatOps.absf (F := Ideal) _) _ = _
  pointwise
  rfl
theorem rope_bit (a : Fin 416) (r : Fin 32) (l : Fin 128) (j : Fin 2) : (fn (F := Ideal) a0 a1 a2 a3 a4).2.2.2.2.2.2.1 (ix4 a r l j)
    = BitVec.ofBool (decide (max (Ideal.ofBits .bf16 ((a0 (ix3 a (⟨132 + r.val, by omega⟩ : Fin 168) l)).extractLsb' (j.val * 16) 16))
      (-(Ideal.ofBits .bf16 ((a0 (ix3 a (⟨132 + r.val, by omega⟩ : Fin 168) l)).extractLsb' (j.val * 16) 16))) < Ideal.ofBits .bf16 0x7F80#16)) := by
  show FloatOps.cmpf (F := Ideal) _ (FloatOps.absf (F := Ideal) (FloatOps.ofBits .bf16 (Host.bitcastConvertNarrow _ _ _ _ _))) _ = _
  pointwise
  rfl
theorem bias_bit (a : Fin 416) (t : Fin 3) (l : Fin 128) : (fn (F := Ideal) a0 a1 a2 a3 a4).2.2.2.2.2.2.2 (ix3 a t l)
    = BitVec.ofBool (decide (Ideal.ofBits .f32 (a0 (ix3 a (⟨164 + t.val, by omega⟩ : Fin 168) l)) < Ideal.ofBits .f32 0x7F800000#32)) := by
  show FloatOps.cmpf (F := Ideal) _ _ _ = _
  pointwise

theorem both {p q : Bool} (h : BitVec.ofBool p &&& BitVec.ofBool q = 1#1) : p = true ∧ q = true := by
  revert h; cases p <;> cases q <;> decide
theorem either {p q : Bool} (h : BitVec.ofBool p ||| BitVec.ofBool q = 1#1) : p = true ∨ q = true := by
  revert h; cases p <;> cases q <;> decide

/-- Arguments that meet the precondition are ordinary numbers. -/
theorem ordinary (h : (fn (F := Ideal) a0 a1 a2 a3 a4).1 = (fun _ => 1#1) ∧ (fn (F := Ideal) a0 a1 a2 a3 a4).2.1 = (fun _ => 1#1)
    ∧ (fn (F := Ideal) a0 a1 a2 a3 a4).2.2.1 = (fun _ => 1#1) ∧ (fn (F := Ideal) a0 a1 a2 a3 a4).2.2.2.1 = (fun _ => 1#1)
    ∧ (fn (F := Ideal) a0 a1 a2 a3 a4).2.2.2.2.1 = (fun _ => 1#1) ∧ (fn (F := Ideal) a0 a1 a2 a3 a4).2.2.2.2.2.1 = (fun _ => 1#1)
    ∧ (fn (F := Ideal) a0 a1 a2 a3 a4).2.2.2.2.2.2.1 = (fun _ => 1#1) ∧ (fn (F := Ideal) a0 a1 a2 a3 a4).2.2.2.2.2.2.2 = (fun _ => 1#1)) :
    Ordinary a0 a1 a2 a3 a4 := by
  obtain ⟨h0, h1, h2, h3, h4, h5, h6, h7⟩ := h
  constructor
  · intro i t h c
    have e := of_bit ((query_bit a0 a1 a2 a3 a4 i t h c).symm.trans (congrFun h0 _))
    rw [inf_bf16] at e
    exact real_of_abs e
  · intro i t h c
    have e := of_bit ((ropeQuery_bit a0 a1 a2 a3 a4 i t h c).symm.trans (congrFun h1 _))
    rw [inf_bf16] at e
    exact real_of_abs e
  · intro i t c
    have e := of_bit ((newRope_bit a0 a1 a2 a3 a4 i t c).symm.trans (congrFun h2 _))
    rw [inf_bf16] at e
    exact real_of_abs e
  · intro i t c
    have e := either ((latent_bit a0 a1 a2 a3 a4 i t c).symm.trans (congrFun h3 _))
    rw [inf_bf16] at e
    exact e.imp of_decide_eq_true of_decide_eq_true
  · intro a r l j
    have e := both ((code_bit a0 a1 a2 a3 a4 a r l j).symm.trans (congrFun h4 _))
    exact code_real _ (bne_iff_ne.1 e.1) (bne_iff_ne.1 e.2)
  · intro a g l
    have e := of_bit ((scale_bit a0 a1 a2 a3 a4 a g l).symm.trans (congrFun h5 _))
    rw [inf_val] at e
    exact real_of_abs e
  · intro a r l j
    have e := of_bit ((rope_bit a0 a1 a2 a3 a4 a r l j).symm.trans (congrFun h6 _))
    rw [inf_bf16] at e
    exact real_of_abs e
  · intro a t l
    have e := of_bit ((bias_bit a0 a1 a2 a3 a4 a t l).symm.trans (congrFun h7 _))
    rw [inf_val] at e
    exact e.ne

end Cert.Pre_ordinary
end
end
-- ==== Proof.KernelIdeal.ReadBack.lean ====
/- What the score scratch gives back: chunk `k`'s scores until they are exponentiated, their exponentials after. -/
module

public import proofs.«01_k».proof.Proof.KernelIdeal.Model
public import Idealize.ShloMosaic.Lib.Pointwise

@[expose] public section

set_option maxRecDepth 16384

noncomputable section

namespace Cert.KernelIdeal.Model

open Cert.KernelIdeal.Gen
open Idealize.ShloMosaic Idealize.ShloMosaic.TcCoe Idealize.ShloMosaic.Tactic

variable {F : FTy → Type} [FloatOps F]

variable (W : (r : Rect S52x168x128) → r.shape.Idx → Elt F .i32)
  (q : Vec F S1x48x512 .bf16) (qr : Vec F S1x48x64 .bf16) (sn : FVec F S48x128 .f32)
  (v : View sig .tc .vmem S48x6656 .f32)

/-- The columns of two chunks are disjoint. -/
theorem colRect_disjoint {k n : Fin 13} (h : k ≠ n) : Disjoint (colRect n).set (colRect k).toLoadRect.set := by
  refine Rect.unit_disjoint (inb := col_inb n) (inb' := col_inb k) 1 ?_
  show 512 * n.val + 512 ≤ 512 * k.val ∨ 512 * k.val + 512 ≤ 512 * n.val
  have := Fin.val_ne_of_ne h
  omega

theorem scList_succ (n : ℕ) (h : n + 1 ≤ 13) : scList W q qr (n + 1) h
    = ⟨colRect ⟨n, h⟩, shapeCast S48x512 (sc W q qr ⟨n, h⟩) shapeCasts_S48x512_S48x512⟩ :: scList W q qr n (Nat.le_of_succ_le h) := rfl

theorem exList_succ (n : ℕ) (h : n + 1 ≤ 13) : exList W q qr sn v (n + 1) h
    = ⟨colRect ⟨n, h⟩, shapeCast S48x512 (k0_pay244 (m W q qr sn)
      (v.readCov (exList W q qr sn v n (Nat.le_of_succ_le h)) (colRect ⟨n, h⟩).toLoadRect)) shapeCasts_S48x512_S48x512⟩
      :: exList W q qr sn v n (Nat.le_of_succ_le h) := rfl

theorem readCov_over {s : Shape} {e : EltTy} (v : View sig .tc .vmem s e) (r r' : Rect s) (h : Disjoint r.set r'.toLoadRect.set)
    (w : r.shape.Idx → Elt F e) (L : List (View.Piece (Elt F) s e)) :
    v.readCov (⟨r, w⟩ :: L) r'.toLoadRect = v.readCov L r'.toLoadRect :=
  View.readCov_cons_of_disjoint v ⟨r, w⟩ L r'.toLoadRect h

/-- A chunk read from under a store of its own columns, and from under one of another chunk's. -/
theorem readCov_own (k : Fin 13) (w : FVec F S48x512 .f32) (L : List (View.Piece (Elt F) S48x6656 .f32)) :
    v.readCov (⟨colRect k, shapeCast S48x512 w shapeCasts_S48x512_S48x512⟩ :: L) (colRect k).toLoadRect = w := by
  rw [View.readCov_cons_toLoadRect, shapeCast_id]

theorem readCov_other {k n : Fin 13} (e : k ≠ n) (w : FVec F S48x512 .f32) (L : List (View.Piece (Elt F) S48x6656 .f32)) :
    v.readCov (⟨colRect n, w⟩ :: L) (colRect k).toLoadRect = v.readCov L (colRect k).toLoadRect :=
  readCov_over v (colRect n) (colRect k) (colRect_disjoint e) w L

theorem readCov_scList (k : Fin 13) (n : ℕ) (h : n ≤ 13) (hk : k.val < n) :
    v.readCov (scList W q qr n h) (colRect k).toLoadRect = sc W q qr k := by
  induction n with
  | zero => omega
  | succ n ih =>
    rw [scList_succ]
    by_cases e : k = ⟨n, h⟩
    · subst e
      exact readCov_own v _ _ _
    · rw [readCov_other v e]
      have : k.val ≠ n := fun hh => e (Fin.ext hh)
      exact ih _ (by omega)

/-- The exponentials of chunk `k`. -/
def ex (k : Fin 13) : FVec F S48x512 .f32 := k0_pay244 (m W q qr sn) (sc W q qr k)

theorem readCov_exList (k : Fin 13) (n : ℕ) (h : n ≤ 13) :
    v.readCov (exList W q qr sn v n h) (colRect k).toLoadRect = if k.val < n then ex W q qr sn k else sc W q qr k := by
  induction n with
  | zero => exact readCov_scList W q qr v k 13 (Nat.le_refl 13) k.isLt
  | succ n ih =>
    rw [exList_succ]
    by_cases e : k = ⟨n, h⟩
    · subst e
      rw [readCov_own, ih, if_neg (Nat.lt_irrefl _), if_pos (Nat.lt_succ_self _)]
      rfl
    · rw [readCov_other v e, ih]
      have hk : k.val ≠ n := fun hh => e (Fin.ext hh)
      by_cases g : k.val < n
      · rw [if_pos g, if_pos (by omega)]
      · rw [if_neg g, if_neg (by omega)]

theorem exNow_eq (n : ℕ) (h : n < 13) : exNow W q qr sn v n h = ex W q qr sn ⟨n, h⟩ := by
  unfold exNow ex
  rw [readCov_exList W q qr sn v ⟨n, h⟩ n, if_neg (Nat.lt_irrefl _)]

theorem exBack_eq (n : ℕ) (h : n < 13) : exBack W q qr sn v n h = ex W q qr sn ⟨n, h⟩ := by
  unfold exBack
  rw [readCov_exList W q qr sn v ⟨n, h⟩ 13, if_pos h]

end Cert.KernelIdeal.Model
end
end
-- ==== Proof.KernelIdeal.Keys.lean ====
/- The packed keys read element by element: the code, the scale, the rope part and the bias of a key, out of the words
   of its tile. -/
module

public import proofs.«01_k».proof.Proof.KernelIdeal.Model
public import Idealize.ShloMosaic.Lib.Pointwise
public import Idealize.ShloMosaic.Lib.Pipeline.ValueKit
public import Idealize.ShloMosaic.Lib.BitcastPair

@[expose] public section

set_option maxRecDepth 16384

noncomputable section

namespace Cert.KernelIdeal.Model

open Cert.KernelIdeal.Gen
open Idealize.ShloMosaic Idealize.ShloMosaic.TcCoe Idealize.ShloMosaic.Tactic

/-- Words of thirty-two bits read at eight: row `4 r + k` of a column is byte `k` of the word in row `r`. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The word in row `r` of a key's tile. -/
def keyWord (x0 : Vec Ideal S52x168x128 .i32) (k : Fin 6656) (r : Fin 168) : BitVec 32 :=
  x0 (ix3 ⟨k.val / 128, by omega⟩ r ⟨k.val % 128, by omega⟩)

/-- The parts of a key. -/
def keyCode (x0 : Vec Ideal S52x168x128 .i32) (k : Fin 6656) (ρ : Fin 512) : EReal :=
  Ideal.ofBits .fp8e4m3 ((keyWord x0 k ⟨ρ.val / 4, by omega⟩).extractLsb' (8 * (ρ.val % 4)) 8)
def keyScale (x0 : Vec Ideal S52x168x128 .i32) (k : Fin 6656) (g : Fin 4) : EReal :=
  Ideal.ofBits .f32 (keyWord x0 k ⟨128 + g.val, by omega⟩)
def keyRope (x0 : Vec Ideal S52x168x128 .i32) (k : Fin 6656) (d : Fin 64) : EReal :=
  Ideal.ofBits .bf16 ((keyWord x0 k ⟨132 + d.val / 2, by omega⟩).extractLsb' (16 * (d.val % 2)) 16)
def keyBias (x0 : Vec Ideal S52x168x128 .i32) (k : Fin 6656) (t : Fin 3) : EReal :=
  Ideal.ofBits .f32 (keyWord x0 k ⟨164 + t.val, by omega⟩)

/-- Column `j` of chunk `c`. -/
abbrev col (c : Fin 13) (j : Fin 512) : Fin 6656 := ⟨512 * c.val + j.val, by omega⟩

theorem tile_at (x0 : Vec Ideal S52x168x128 .i32) (c : Fin 13) (j : Fin 512) (i r n : ℕ) (hi : i < 4) (h : r + n ≤ 168)
    (ρ : Fin n) (l : Fin 128) (hj : j.val = 128 * i + l.val) :
    View.ld x0 (Rect.unit ![4 * c.val + i, r, 0] ![1, n, 128] (tile_inb c i r n hi h)) (ix3 0 ρ l)
      = keyWord x0 (col c j) ⟨r + ρ.val, by omega⟩ := by
  show x0 _ = x0 _
  congr 1
  funext a
  apply Fin.ext
  match a with
  | 0 => show 4 * c.val + i + 1 * 0 = (512 * c.val + j.val) / 128; omega
  | 1 => show r + 1 * ρ.val = r + ρ.val; omega
  | 2 => show 0 + 1 * l.val = (512 * c.val + j.val) % 128; omega

theorem tile_code {α : Type} (v : S1x128x128.Idx → α) (ρ : Fin 128) (l : Fin 128) :
    shapeCast S128x128 v shapeCasts_S1x128x128_S128x128 (ix2 ρ l) = v (ix3 0 ρ l) := by pointwise

/-- Four tiles side by side read at a column. -/
theorem beside4_code (v0 v1 v2 v3 : S128x128.Idx → BitVec 32) (ρ : Fin 128) (j : Fin 512) (w : BitVec 32)
    (h0 : ∀ l : Fin 128, j.val = 128 * 0 + l.val → v0 (ix2 ρ l) = w) (h1 : ∀ l : Fin 128, j.val = 128 * 1 + l.val → v1 (ix2 ρ l) = w)
    (h2 : ∀ l : Fin 128, j.val = 128 * 2 + l.val → v2 (ix2 ρ l) = w) (h3 : ∀ l : Fin 128, j.val = 128 * 3 + l.val → v3 (ix2 ρ l) = w) :
    concatenate (α := BitVec 32) S128x512 1 [⟨S128x128, v0⟩, ⟨S128x128, v1⟩, ⟨S128x128, v2⟩, ⟨S128x128, v3⟩] concatenates_S128x128_S128x128_S128x128_S128x128_S128x512_d1 (ix2 ρ j) = w := by
  pointwise
  by_cases e0 : j.val < 128
  · exact (dif_pos e0).trans (h0 ⟨j.val, e0⟩ (by show j.val = 128 * 0 + j.val; omega))
  refine (dif_neg e0).trans ?_
  by_cases e1 : j.val - 128 < 128
  · exact (dif_pos e1).trans (h1 ⟨j.val - 128, e1⟩ (by show j.val = 128 * 1 + (j.val - 128); omega))
  refine (dif_neg e1).trans ?_
  by_cases e2 : j.val - 128 - 128 < 128
  · exact (dif_pos e2).trans (h2 ⟨j.val - 128 - 128, e2⟩ (by show j.val = 128 * 2 + (j.val - 128 - 128); omega))
  exact (dif_neg e2).trans (h3 ⟨j.val - 128 - 128 - 128, by omega⟩ (by show j.val = 128 * 3 + (j.val - 128 - 128 - 128); omega))

theorem beside_code (v : Fin 4 → S128x128.Idx → BitVec 32) (ρ : Fin 128) (j : Fin 512) (w : BitVec 32)
    (hv : ∀ (i : Fin 4) (l : Fin 128), j.val = 128 * i.val + l.val → v i (ix2 ρ l) = w) :
    concatenate (α := BitVec 32) S128x512 1 [⟨S128x128, v 0⟩, ⟨S128x128, v 1⟩, ⟨S128x128, v 2⟩, ⟨S128x128, v 3⟩] concatenates_S128x128_S128x128_S128x128_S128x128_S128x512_d1 (ix2 ρ j) = w :=
  beside4_code (v 0) (v 1) (v 2) (v 3) ρ j w (hv 0) (hv 1) (hv 2) (hv 3)

theorem tile_scale {α : Type} (v : S1x4x128.Idx → α) (ρ : Fin 4) (l : Fin 128) :
    shapeCast S4x128 v shapeCasts_S1x4x128_S4x128 (ix2 ρ l) = v (ix3 0 ρ l) := by pointwise

/-- Four tiles side by side read at a column. -/
theorem beside4_scale (v0 v1 v2 v3 : S4x128.Idx → BitVec 32) (ρ : Fin 4) (j : Fin 512) (w : BitVec 32)
    (h0 : ∀ l : Fin 128, j.val = 128 * 0 + l.val → v0 (ix2 ρ l) = w) (h1 : ∀ l : Fin 128, j.val = 128 * 1 + l.val → v1 (ix2 ρ l) = w)
    (h2 : ∀ l : Fin 128, j.val = 128 * 2 + l.val → v2 (ix2 ρ l) = w) (h3 : ∀ l : Fin 128, j.val = 128 * 3 + l.val → v3 (ix2 ρ l) = w) :
    concatenate (α := BitVec 32) S4x512 1 [⟨S4x128, v0⟩, ⟨S4x128, v1⟩, ⟨S4x128, v2⟩, ⟨S4x128, v3⟩] concatenates_S4x128_S4x128_S4x128_S4x128_S4x512_d1 (ix2 ρ j) = w := by
  pointwise
  by_cases e0 : j.val < 128
  · exact (dif_pos e0).trans (h0 ⟨j.val, e0⟩ (by show j.val = 128 * 0 + j.val; omega))
  refine (dif_neg e0).trans ?_
  by_cases e1 : j.val - 128 < 128
  · exact (dif_pos e1).trans (h1 ⟨j.val - 128, e1⟩ (by show j.val = 128 * 1 + (j.val - 128); omega))
  refine (dif_neg e1).trans ?_
  by_cases e2 : j.val - 128 - 128 < 128
  · exact (dif_pos e2).trans (h2 ⟨j.val - 128 - 128, e2⟩ (by show j.val = 128 * 2 + (j.val - 128 - 128); omega))
  exact (dif_neg e2).trans (h3 ⟨j.val - 128 - 128 - 128, by omega⟩ (by show j.val = 128 * 3 + (j.val - 128 - 128 - 128); omega))

theorem beside_scale (v : Fin 4 → S4x128.Idx → BitVec 32) (ρ : Fin 4) (j : Fin 512) (w : BitVec 32)
    (hv : ∀ (i : Fin 4) (l : Fin 128), j.val = 128 * i.val + l.val → v i (ix2 ρ l) = w) :
    concatenate (α := BitVec 32) S4x512 1 [⟨S4x128, v 0⟩, ⟨S4x128, v 1⟩, ⟨S4x128, v 2⟩, ⟨S4x128, v 3⟩] concatenates_S4x128_S4x128_S4x128_S4x128_S4x512_d1 (ix2 ρ j) = w :=
  beside4_scale (v 0) (v 1) (v 2) (v 3) ρ j w (hv 0) (hv 1) (hv 2) (hv 3)

theorem tile_rope {α : Type} (v : S1x32x128.Idx → α) (ρ : Fin 32) (l : Fin 128) :
    shapeCast S32x128 v shapeCasts_S1x32x128_S32x128 (ix2 ρ l) = v (ix3 0 ρ l) := by pointwise

/-- Four tiles side by side read at a column. -/
theorem beside4_rope (v0 v1 v2 v3 : S32x128.Idx → BitVec 32) (ρ : Fin 32) (j : Fin 512) (w : BitVec 32)
    (h0 : ∀ l : Fin 128, j.val = 128 * 0 + l.val → v0 (ix2 ρ l) = w) (h1 : ∀ l : Fin 128, j.val = 128 * 1 + l.val → v1 (ix2 ρ l) = w)
    (h2 : ∀ l : Fin 128, j.val = 128 * 2 + l.val → v2 (ix2 ρ l) = w) (h3 : ∀ l : Fin 128, j.val = 128 * 3 + l.val → v3 (ix2 ρ l) = w) :
    concatenate (α := BitVec 32) S32x512 1 [⟨S32x128, v0⟩, ⟨S32x128, v1⟩, ⟨S32x128, v2⟩, ⟨S32x128, v3⟩] concatenates_S32x128_S32x128_S32x128_S32x128_S32x512_d1 (ix2 ρ j) = w := by
  pointwise
  by_cases e0 : j.val < 128
  · exact (dif_pos e0).trans (h0 ⟨j.val, e0⟩ (by show j.val = 128 * 0 + j.val; omega))
  refine (dif_neg e0).trans ?_
  by_cases e1 : j.val - 128 < 128
  · exact (dif_pos e1).trans (h1 ⟨j.val - 128, e1⟩ (by show j.val = 128 * 1 + (j.val - 128); omega))
  refine (dif_neg e1).trans ?_
  by_cases e2 : j.val - 128 - 128 < 128
  · exact (dif_pos e2).trans (h2 ⟨j.val - 128 - 128, e2⟩ (by show j.val = 128 * 2 + (j.val - 128 - 128); omega))
  exact (dif_neg e2).trans (h3 ⟨j.val - 128 - 128 - 128, by omega⟩ (by show j.val = 128 * 3 + (j.val - 128 - 128 - 128); omega))

theorem beside_rope (v : Fin 4 → S32x128.Idx → BitVec 32) (ρ : Fin 32) (j : Fin 512) (w : BitVec 32)
    (hv : ∀ (i : Fin 4) (l : Fin 128), j.val = 128 * i.val + l.val → v i (ix2 ρ l) = w) :
    concatenate (α := BitVec 32) S32x512 1 [⟨S32x128, v 0⟩, ⟨S32x128, v 1⟩, ⟨S32x128, v 2⟩, ⟨S32x128, v 3⟩] concatenates_S32x128_S32x128_S32x128_S32x128_S32x512_d1 (ix2 ρ j) = w :=
  beside4_rope (v 0) (v 1) (v 2) (v 3) ρ j w (hv 0) (hv 1) (hv 2) (hv 3)

theorem tile_bias {α : Type} (v : S1x3x128.Idx → α) (ρ : Fin 3) (l : Fin 128) :
    shapeCast S3x128 v shapeCasts_S1x3x128_S3x128 (ix2 ρ l) = v (ix3 0 ρ l) := by pointwise

/-- Four tiles side by side read at a column. -/
theorem beside4_bias (v0 v1 v2 v3 : S3x128.Idx → BitVec 32) (ρ : Fin 3) (j : Fin 512) (w : BitVec 32)
    (h0 : ∀ l : Fin 128, j.val = 128 * 0 + l.val → v0 (ix2 ρ l) = w) (h1 : ∀ l : Fin 128, j.val = 128 * 1 + l.val → v1 (ix2 ρ l) = w)
    (h2 : ∀ l : Fin 128, j.val = 128 * 2 + l.val → v2 (ix2 ρ l) = w) (h3 : ∀ l : Fin 128, j.val = 128 * 3 + l.val → v3 (ix2 ρ l) = w) :
    concatenate (α := BitVec 32) S3x512 1 [⟨S3x128, v0⟩, ⟨S3x128, v1⟩, ⟨S3x128, v2⟩, ⟨S3x128, v3⟩] concatenates_S3x128_S3x128_S3x128_S3x128_S3x512_d1 (ix2 ρ j) = w := by
  pointwise
  by_cases e0 : j.val < 128
  · exact (dif_pos e0).trans (h0 ⟨j.val, e0⟩ (by show j.val = 128 * 0 + j.val; omega))
  refine (dif_neg e0).trans ?_
  by_cases e1 : j.val - 128 < 128
  · exact (dif_pos e1).trans (h1 ⟨j.val - 128, e1⟩ (by show j.val = 128 * 1 + (j.val - 128); omega))
  refine (dif_neg e1).trans ?_
  by_cases e2 : j.val - 128 - 128 < 128
  · exact (dif_pos e2).trans (h2 ⟨j.val - 128 - 128, e2⟩ (by show j.val = 128 * 2 + (j.val - 128 - 128); omega))
  exact (dif_neg e2).trans (h3 ⟨j.val - 128 - 128 - 128, by omega⟩ (by show j.val = 128 * 3 + (j.val - 128 - 128 - 128); omega))

theorem beside_bias (v : Fin 4 → S3x128.Idx → BitVec 32) (ρ : Fin 3) (j : Fin 512) (w : BitVec 32)
    (hv : ∀ (i : Fin 4) (l : Fin 128), j.val = 128 * i.val + l.val → v i (ix2 ρ l) = w) :
    concatenate (α := BitVec 32) S3x512 1 [⟨S3x128, v 0⟩, ⟨S3x128, v 1⟩, ⟨S3x128, v 2⟩, ⟨S3x128, v 3⟩] concatenates_S3x128_S3x128_S3x128_S3x128_S3x512_d1 (ix2 ρ j) = w :=
  beside4_bias (v 0) (v 1) (v 2) (v 3) ρ j w (hv 0) (hv 1) (hv 2) (hv 3)

theorem scaleWords_at (x0 : Vec Ideal S52x168x128 .i32) (c : Fin 13) (g : Fin 4) (j : Fin 512) :
    scaleWords (F := Ideal) (fun r => View.ld x0 r) c (ix2 g j) = keyWord x0 (col c j) ⟨128 + g.val, by omega⟩ := by
  refine beside_scale (fun i => shapeCast S4x128 (View.ld x0 (Rect.unit ![4 * c.val + i.val, 128, 0] S1x4x128.size (tile_inb c i.val 128 4 i.isLt (by omega)))) shapeCasts_S1x4x128_S4x128) g j _ ?_
  intro i l hl
  exact (tile_scale _ g l).trans (tile_at x0 c j i.val 128 4 i.isLt (by omega) g l hl)

theorem codes_at (x0 : Vec Ideal S52x168x128 .i32) (c : Fin 13) (ρ : Fin 512) (j : Fin 512) :
    codes (F := Ideal) (fun r => View.ld x0 r) c (ix2 ρ j) = keyCode x0 (col c j) ρ := by
  show Ideal.ofBits .fp8e4m3 (bitcast S512x512 8 _ bitcasts_S128x512_w32_S512x512_w8 (ix2 ρ j)) = _
  rw [bitcast_32_8]
  unfold keyCode
  congr 2
  refine Eq.trans (congrArg _ ?_) (beside_code (fun i => shapeCast S128x128 (View.ld x0 (Rect.unit ![4 * c.val + i.val, 0, 0] S1x128x128.size (tile_inb c i.val 0 128 i.isLt (by omega)))) shapeCasts_S1x128x128_S128x128) ⟨ρ.val / 4, by omega⟩ j _ ?_)
  · funext a
    match a with
    | 0 => rfl
    | 1 => rfl
  · intro i l hl
    refine (tile_code _ ⟨ρ.val / 4, by omega⟩ l).trans ?_
    refine (tile_at x0 c j i.val 0 128 i.isLt (by omega) ⟨ρ.val / 4, by omega⟩ l hl).trans ?_
    congr 2
    show 0 + ρ.val / 4 = ρ.val / 4
    omega

theorem rope_at (x0 : Vec Ideal S52x168x128 .i32) (c : Fin 13) (d : Fin 64) (j : Fin 512) :
    rope (F := Ideal) (fun r => View.ld x0 r) c (ix2 d j) = keyRope x0 (col c j) d := by
  show Ideal.ofBits .bf16 (bitcast S64x512 16 _ bitcasts_S32x512_w32_S64x512_w16 (ix2 d j)) = _
  rw [bitcast_32_16]
  unfold keyRope
  congr 2
  refine Eq.trans (congrArg _ ?_) (beside_rope (fun i => shapeCast S32x128 (View.ld x0 (Rect.unit ![4 * c.val + i.val, 132, 0] S1x32x128.size (tile_inb c i.val 132 32 i.isLt (by omega)))) shapeCasts_S1x32x128_S32x128) ⟨d.val / 2, by omega⟩ j _ ?_)
  · funext a
    match a with
    | 0 => rfl
    | 1 => rfl
  · intro i l hl
    exact (tile_rope _ ⟨d.val / 2, by omega⟩ l).trans (tile_at x0 c j i.val 132 32 i.isLt (by omega) ⟨d.val / 2, by omega⟩ l hl)

/-- The biases' rows, each for sixteen rows of scores. -/
def biasV (v : IVec S3x512 32) : FVec Ideal S48x512 .f32 :=
  concatenate S48x512 0
    [⟨S16x512, broadcastTo S16x512 (shapeCast S1x512 (extractStridedSlice S1x512 ![0, 0] (bitcastToFloat (F := Ideal) .f32 v) slices_S3x512_o0_0_S1x512) shapeCasts_S1x512_S1x512) broadcasts_S1x512_S16x512⟩,
     ⟨S16x512, broadcastTo S16x512 (shapeCast S1x512 (extractStridedSlice S1x512 ![1, 0] (bitcastToFloat (F := Ideal) .f32 v) slices_S3x512_o1_0_S1x512) shapeCasts_S1x512_S1x512) broadcasts_S1x512_S16x512⟩,
     ⟨S16x512, broadcastTo S16x512 (shapeCast S1x512 (extractStridedSlice S1x512 ![2, 0] (bitcastToFloat (F := Ideal) .f32 v) slices_S3x512_o2_0_S1x512) shapeCasts_S1x512_S1x512) broadcasts_S1x512_S16x512⟩]
    concatenates_S16x512_S16x512_S16x512_S48x512_d0

theorem biasV_at (v : IVec S3x512 32) (r : Fin 48) (j : Fin 512) :
    biasV v (ix2 r j) = Ideal.ofBits .f32 (v (ix2 ⟨r.val / 16, by omega⟩ j)) := by
  unfold biasV
  pointwise
  by_cases e0 : r.val < 16
  · refine (dif_pos e0).trans ?_
    exact congrArg (fun t => Ideal.ofBits .f32 (v (ix2 t j))) (Fin.ext (by show 0 = r.val / 16; omega))
  refine (dif_neg e0).trans ?_
  by_cases e1 : r.val - 16 < 16
  · refine (dif_pos e1).trans ?_
    exact congrArg (fun t => Ideal.ofBits .f32 (v (ix2 t j))) (Fin.ext (by show 1 = r.val / 16; omega))
  refine (dif_neg e1).trans ?_
  exact congrArg (fun t => Ideal.ofBits .f32 (v (ix2 t j))) (Fin.ext (by show 2 = r.val / 16; omega))

theorem bias_at (x0 : Vec Ideal S52x168x128 .i32) (c : Fin 13) (r : Fin 48) (j : Fin 512) :
    bias (F := Ideal) (fun r => View.ld x0 r) c (ix2 r j) = keyBias x0 (col c j) ⟨r.val / 16, by omega⟩ := by
  refine (biasV_at (concatenate (α := BitVec 32) S3x512 1 [⟨S3x128, _⟩, ⟨S3x128, _⟩, ⟨S3x128, _⟩, ⟨S3x128, _⟩] concatenates_S3x128_S3x128_S3x128_S3x128_S3x512_d1) r j).trans (congrArg (Ideal.ofBits .f32) ?_)
  refine beside_bias (fun i => shapeCast S3x128 (View.ld x0 (Rect.unit ![4 * c.val + i.val, 164, 0] S1x3x128.size (tile_inb c i.val 164 3 i.isLt (by omega)))) shapeCasts_S1x3x128_S3x128) ⟨r.val / 16, by omega⟩ j _ ?_
  intro i l hl
  exact (tile_bias _ ⟨r.val / 16, by omega⟩ l).trans (tile_at x0 c j i.val 164 3 i.isLt (by omega) ⟨r.val / 16, by omega⟩ l hl)

end Cert.KernelIdeal.Model
end
end
-- ==== Proof.KernelIdeal.Scores.lean ====
/- The scores read element by element: each is the score of the batch's numbers, whichever tile its column lies in, and
   a lane of the new tokens holds the score of its token or, where no row sees it, `-∞`. -/
module

public import proofs.«01_k».proof.Proof.KernelIdeal.Keys
public import proofs.«01_k».proof.Proof.Spec.Attend

@[expose] public section

set_option maxRecDepth 16384

noncomputable section

namespace Cert.KernelIdeal.Model

open Cert.KernelIdeal.Gen Cert.Spec
open Idealize.ShloMosaic Idealize.ShloMosaic.TcCoe Idealize.ShloMosaic.Tactic

/-! The query's halves: two groups of its columns, one above the other, with zeros beside them. -/

section queries
variable (q : Vec Ideal S1x48x512 .bf16) (r : Fin 48) (u : Fin 128)

theorem pay87_ll : k0_pay87 q (ix2 ⟨r.val, by omega⟩ ⟨u.val, by omega⟩) = q (ix3 0 r ⟨u.val, by omega⟩) := by
  pointwise [k0_pay87, k0_pay85]
theorem pay87_lh : k0_pay87 q (ix2 ⟨r.val, by omega⟩ ⟨128 + u.val, by omega⟩) = (0 : EReal) := by
  pointwise [k0_pay87, k0_pay85, k0_pay86]
theorem pay87_hl : k0_pay87 q (ix2 ⟨48 + r.val, by omega⟩ ⟨u.val, by omega⟩) = (0 : EReal) := by
  pointwise [k0_pay87, k0_pay85, k0_pay86]
theorem pay87_hh : k0_pay87 q (ix2 ⟨48 + r.val, by omega⟩ ⟨128 + u.val, by omega⟩) = q (ix3 0 r ⟨128 + u.val, by omega⟩) := by
  pointwise [k0_pay87, k0_pay85]
theorem pay88_ll : k0_pay88 q (ix2 ⟨r.val, by omega⟩ ⟨u.val, by omega⟩) = q (ix3 0 r ⟨256 + u.val, by omega⟩) := by
  pointwise [k0_pay88, k0_pay85]
theorem pay88_lh : k0_pay88 q (ix2 ⟨r.val, by omega⟩ ⟨128 + u.val, by omega⟩) = (0 : EReal) := by
  pointwise [k0_pay88, k0_pay85, k0_pay86]
theorem pay88_hl : k0_pay88 q (ix2 ⟨48 + r.val, by omega⟩ ⟨u.val, by omega⟩) = (0 : EReal) := by
  pointwise [k0_pay88, k0_pay85, k0_pay86]
theorem pay88_hh : k0_pay88 q (ix2 ⟨48 + r.val, by omega⟩ ⟨128 + u.val, by omega⟩) = q (ix3 0 r ⟨384 + u.val, by omega⟩) := by
  pointwise [k0_pay88, k0_pay85]
end queries

/-- A sum over a half, of which only one group counts. -/
theorem sum_half (f : Fin 256 → EReal) : ∑ k, f k = ∑ u : Fin 128, f ⟨u.val, by omega⟩ + ∑ u : Fin 128, f ⟨128 + u.val, by omega⟩ := by
  rw [Fin.sum_univ_tiles 2 128 rfl f, Fin.sum_univ_two]
  congr 1

theorem half_lo (a b : Fin 256 → EReal) (a' b' : Fin 128 → EReal) (h0 : ∀ u : Fin 128, a ⟨u.val, by omega⟩ = a' u)
    (h1 : ∀ u : Fin 128, a ⟨128 + u.val, by omega⟩ = 0) (hb : ∀ u : Fin 128, b ⟨u.val, by omega⟩ = b' u) :
    ∑ k, a k * b k = ∑ u, a' u * b' u := by
  rw [sum_half]
  simp only [h0, h1, hb, zero_mul, Finset.sum_const_zero, add_zero]

theorem half_hi (a b : Fin 256 → EReal) (a' b' : Fin 128 → EReal) (h0 : ∀ u : Fin 128, a ⟨u.val, by omega⟩ = 0)
    (h1 : ∀ u : Fin 128, a ⟨128 + u.val, by omega⟩ = a' u) (hb : ∀ u : Fin 128, b ⟨128 + u.val, by omega⟩ = b' u) :
    ∑ k, a k * b k = ∑ u, a' u * b' u := by
  rw [sum_half]
  simp only [h0, h1, hb, zero_mul, Finset.sum_const_zero, zero_add]

/-- The scores of a column, from the parts of the query and of the keys. -/
theorem parts (q : Vec Ideal S1x48x512 .bf16) (r : Fin 48) (C : Fin 512 → EReal) (s : Fin 4 → EReal) (p w : Fin 64 → EReal)
    (hq : ∀ c, ∃ a : ℝ, q (ix3 0 r c) = (a : EReal)) (hC : ∀ c, ∃ a : ℝ, C c = a) (hs : ∀ g, ∃ a : ℝ, s g = a) :
    ∑ d, p d * w d + (∑ k : Fin 256, k0_pay87 q (ix2 ⟨r.val, by omega⟩ k) * C ⟨k.val, by omega⟩) * s 0
      + (∑ k : Fin 256, k0_pay87 q (ix2 ⟨48 + r.val, by omega⟩ k) * C ⟨k.val, by omega⟩) * s 1
      + (∑ k : Fin 256, k0_pay88 q (ix2 ⟨r.val, by omega⟩ k) * C ⟨256 + k.val, by omega⟩) * s 2
      + (∑ k : Fin 256, k0_pay88 q (ix2 ⟨48 + r.val, by omega⟩ k) * C ⟨256 + k.val, by omega⟩) * s 3
      = dot (fun c => q (ix3 0 r c)) C s p w := by
  rw [← dot_groups _ _ _ _ _ hq hC hs]
  rw [half_lo _ _ (fun u => q (ix3 0 r ⟨u.val, by omega⟩)) (fun u => C ⟨u.val, by omega⟩) (pay87_ll q r) (pay87_lh q r) fun u => rfl,
    half_hi _ _ (fun u => q (ix3 0 r ⟨128 + u.val, by omega⟩)) (fun u => C ⟨128 + u.val, by omega⟩) (pay87_hl q r) (pay87_hh q r) fun u => rfl,
    half_lo _ _ (fun u => q (ix3 0 r ⟨256 + u.val, by omega⟩)) (fun u => C ⟨256 + u.val, by omega⟩) (pay88_ll q r) (pay88_lh q r) fun u => rfl,
    half_hi _ _ (fun u => q (ix3 0 r ⟨384 + u.val, by omega⟩)) (fun u => C ⟨384 + u.val, by omega⟩) (pay88_hl q r) (pay88_hh q r)
      fun u => congrArg C (Fin.ext (by show 256 + (128 + u.val) = 384 + u.val; omega))]

variable (x0 : Vec Ideal S52x168x128 .i32) (x1 : Vec Ideal S1x48x512 .bf16) (x2 : Vec Ideal S1x48x64 .bf16) (i : grid0.Coords)
  (x5 : Vec Ideal S64x128 .bf16) (nc : Vec Ideal S512x128 .fp8e4m3) (ns : Vec Ideal S8x128 .f32)

theorem coord_lt : (i 0).val < 8 := (i 0).isLt

/-- The lane of a new token of the batch. -/
abbrev lane (t : Fin 3) : Fin 128 := ⟨3 * (i 0).val + t.val, by have := coord_lt i; omega⟩

/-- The batch's numbers. -/
def batch : Batch where
  K := keyCode x0
  S := keyScale x0
  R := keyRope x0
  B := keyBias x0
  Q r c := x1 (ix3 0 r c)
  P r d := x2 (ix3 0 r d)
  N t c := nc (ix2 c (lane i t))
  NS t g := ns (ix2 ⟨g.val, by omega⟩ (lane i t))
  NR t d := x5 (ix2 d (lane i t))

theorem pay135_at (A B : FVec Ideal S96x256 .bf16) (R : FVec Ideal S64x512 .bf16) (E : FVec Ideal S48x512 .f32) (C : FVec Ideal S512x512 .fp8e4m3) (S : IVec S4x512 32) (qr : Vec Ideal S1x48x64 .bf16) (r : Fin 48) (j : Fin 512) :
    k0_pay135 A B R E C S qr (ix2 r j) = (∑ x : Fin 64, qr (ix3 0 r x) * R (ix2 x j) +
                (∑ x : Fin 256, A (ix2 ⟨r.val, by omega⟩ x) * C (ix2 ⟨x.val, by omega⟩ j)) * Ideal.ofBits .f32 (S (ix2 0 j)) +
              (∑ x : Fin 256, A (ix2 ⟨48 + r.val, by omega⟩ x) * C (ix2 ⟨x.val, by omega⟩ j)) * Ideal.ofBits .f32 (S (ix2 1 j)) +
            (∑ x : Fin 256, B (ix2 ⟨r.val, by omega⟩ x) * C (ix2 ⟨256 + x.val, by omega⟩ j)) * Ideal.ofBits .f32 (S (ix2 2 j)) +
          (∑ x : Fin 256, B (ix2 ⟨48 + r.val, by omega⟩ x) * C (ix2 ⟨256 + x.val, by omega⟩ j)) * Ideal.ofBits .f32 (S (ix2 3 j))) *
        temper + E (ix2 r j) := by
  pointwise [k0_pay135]

theorem sc_at (hb : (batch x0 x1 x2 i x5 nc ns).Good) (c : Fin 13) (r : Fin 48) (j : Fin 512) :
    sc (F := Ideal) (fun r => View.ld x0 r) x1 x2 c (ix2 r j) = (batch x0 x1 x2 i x5 nc ns).cached r (col c j) := by
  unfold sc
  rw [pay135_at]
  simp only [scaleWords_at, codes_at, rope_at, bias_at]
  exact congrArg (fun z => z * temper + keyBias x0 (col c j) (tok r))
    (parts x1 r (keyCode x0 (col c j)) (keyScale x0 (col c j)) (fun d => x2 (ix3 0 r d)) (keyRope x0 (col c j))
      (hb.Q r) (hb.K (col c j)) (hb.S (col c j)))

theorem visible_word : ∀ (b : Fin 8) (l : Fin 128) (t : Fin 3),
    IntOp.andi (IntOp.cmpi CmpIPredicate.sge (BitVec.ofNat 32 l.val) (Scalar.muli (BitVec.ofNat 32 b.val) 3#32))
      (IntOp.cmpi CmpIPredicate.sle (IntOp.subi (BitVec.ofNat 32 l.val) (Scalar.muli (BitVec.ofNat 32 b.val) 3#32)) (BitVec.ofNat 32 t.val))
      = BitVec.ofBool (decide (3 * b.val ≤ l.val ∧ l.val ≤ 3 * b.val + t.val)) := by decide +kernel

theorem pay91_at (A B : FVec Ideal S96x256 .bf16) (r : Fin 48) (l : Fin 128) :
    k0_pay91 (BitVec.ofNat 32 (i 0).val) A B (iota .tc S48x128 32 [1] iota_S48x128_d1_w32) k0_pay89 (k0_pay90 i) nc ns x5 x2 (ix2 r l)
      = Scalar.select (IntOp.andi (IntOp.cmpi CmpIPredicate.sge (BitVec.ofNat 32 l.val) (Scalar.muli (BitVec.ofNat 32 (i 0).val) 3#32))
          (IntOp.cmpi CmpIPredicate.sle (IntOp.subi (BitVec.ofNat 32 l.val) (Scalar.muli (BitVec.ofNat 32 (i 0).val) 3#32)) (tokWord (BitVec.ofNat 32 r.val))))
        ((∑ x : Fin 64, x2 (ix3 0 r x) * x5 (ix2 x l) +
                (∑ x : Fin 256, A (ix2 ⟨r.val, by omega⟩ x) * nc (ix2 ⟨x.val, by omega⟩ l)) * ns (ix2 0 l) +
              (∑ x : Fin 256, A (ix2 ⟨48 + r.val, by omega⟩ x) * nc (ix2 ⟨x.val, by omega⟩ l)) * ns (ix2 1 l) +
            (∑ x : Fin 256, B (ix2 ⟨r.val, by omega⟩ x) * nc (ix2 ⟨256 + x.val, by omega⟩ l)) * ns (ix2 2 l) +
          (∑ x : Fin 256, B (ix2 ⟨48 + r.val, by omega⟩ x) * nc (ix2 ⟨256 + x.val, by omega⟩ l)) * ns (ix2 3 l)) * temper)
        (Ideal.ofBits .f32 0xFF800000#32) := by
  pointwise [k0_pay91, k0_pay90, k0_pay89]

theorem scNew_at (hb : (batch x0 x1 x2 i x5 nc ns).Good) (r : Fin 48) (t : Fin 3) :
    scNew (F := Ideal) x1 x2 i x5 nc ns (ix2 r (lane i t)) = (batch x0 x1 x2 i x5 nc ns).fresh r t := by
  unfold scNew
  rw [pay91_at, tokWord_eq, visible_word ⟨(i 0).val, coord_lt i⟩ (lane i t) (tok r), negInf_val]
  unfold Batch.fresh
  by_cases h : t.val ≤ r.val / 16
  · rw [if_pos h, decide_eq_true (show 3 * (i 0).val ≤ 3 * (i 0).val + t.val ∧ 3 * (i 0).val + t.val ≤ 3 * (i 0).val + r.val / 16 from ⟨by omega, by omega⟩)]
    exact congrArg (fun z => z * temper)
      (parts x1 r (fun c => nc (ix2 c (lane i t))) (fun g => ns (ix2 ⟨g.val, by omega⟩ (lane i t))) (fun d => x2 (ix3 0 r d)) (fun d => x5 (ix2 d (lane i t)))
        (hb.Q r) (hb.N t) (hb.NS t))
  · rw [if_neg h, decide_eq_false (show ¬ (3 * (i 0).val ≤ 3 * (i 0).val + t.val ∧ 3 * (i 0).val + t.val ≤ 3 * (i 0).val + r.val / 16) from fun e => h (by omega))]
    rfl

theorem scNew_off (r : Fin 48) (l : Fin 128) (hl : l.val < 3 * (i 0).val ∨ 3 * (i 0).val + 3 ≤ l.val) :
    scNew (F := Ideal) x1 x2 i x5 nc ns (ix2 r l) = (⊥ : EReal) := by
  unfold scNew
  rw [pay91_at, tokWord_eq, visible_word ⟨(i 0).val, coord_lt i⟩ l (tok r), negInf_val,
    decide_eq_false (show ¬ (3 * (i 0).val ≤ l.val ∧ l.val ≤ 3 * (i 0).val + r.val / 16) from fun e => by omega)]
  rfl

end Cert.KernelIdeal.Model
end
end
-- ==== Proof.KernelIdeal.Softmax.lean ====
/- The softmax: the running maximum over chunks and lanes is the largest score, the running sum is the sum of the
   exponentials, and the log-sum-exp is the batch's. -/
module

public import proofs.«01_k».proof.Proof.KernelIdeal.ReadBack
public import proofs.«01_k».proof.Proof.KernelIdeal.Scores

@[expose] public section

set_option maxRecDepth 16384

noncomputable section

namespace Cert.KernelIdeal.Model

open Cert.KernelIdeal.Gen Cert.Spec
open Idealize.ShloMosaic Idealize.ShloMosaic.TcCoe Idealize.ShloMosaic.Tactic

/-- Column `l` of tile `i` of a chunk. -/
abbrev tcol (i : Fin 4) (l : Fin 128) : Fin 512 := ⟨128 * i.val + l.val, by omega⟩

theorem maxStep_at (a : FVec Ideal S48x128 .f32) (s : FVec Ideal S48x512 .f32) (r : Fin 48) (l : Fin 128) :
    maxStep a s (ix2 r l) = max (max (max (max (a (ix2 r l)) (s (ix2 r ⟨l.val, by omega⟩))) (s (ix2 r ⟨128 + l.val, by omega⟩)))
      (s (ix2 r ⟨256 + l.val, by omega⟩))) (s (ix2 r ⟨384 + l.val, by omega⟩)) := by
  pointwise [maxStep]

theorem sumStep_at (a : FVec Ideal S48x128 .f32) (s : FVec Ideal S48x512 .f32) (r : Fin 48) (l : Fin 128) :
    sumStep a s (ix2 r l) = a (ix2 r l) + s (ix2 r ⟨l.val, by omega⟩) + s (ix2 r ⟨128 + l.val, by omega⟩)
      + s (ix2 r ⟨256 + l.val, by omega⟩) + s (ix2 r ⟨384 + l.val, by omega⟩) := by
  pointwise [sumStep]

/-- A recurrence that adds a term at each step. -/
theorem sum_steps (a : ∀ n, n ≤ 13 → EReal) (f : Fin 13 → EReal) (h : ∀ n hn, a (n + 1) hn = a n (Nat.le_of_succ_le hn) + f ⟨n, hn⟩) :
    a 13 (Nat.le_refl 13) = a 0 (Nat.zero_le 13) + ∑ c, f c := by
  have e : ∀ n hn, a n hn = a 0 (Nat.zero_le 13) + ∑ c : Fin n, f ⟨c.val, by omega⟩ := by
    intro n
    induction n with
    | zero => intro hn; simp
    | succ n ih =>
      intro hn
      rw [h n hn, ih, Fin.sum_univ_castSucc, add_assoc]
      rfl
  exact e 13 _

section model

variable (W : (r : Rect S52x168x128) → r.shape.Idx → Elt Ideal .i32) (q : Vec Ideal S1x48x512 .bf16) (qr : Vec Ideal S1x48x64 .bf16)
  (sn : FVec Ideal S48x128 .f32) (v : View sig .tc .vmem S48x6656 .f32) (b : Batch) (o : ℕ) (ho : o + 3 ≤ 128)
  (hsc : ∀ c r j, sc W q qr c (ix2 r j) = b.cached r (col c j))
  (hnew : ∀ (r : Fin 48) (t : Fin 3), sn (ix2 r (slot o ho t)) = b.fresh r t)
  (hoff : ∀ (r : Fin 48) (l : Fin 128), (l.val < o ∨ o + 3 ≤ l.val) → sn (ix2 r l) = (⊥ : EReal))

include hsc in
theorem mx_le (r : Fin 48) (l : Fin 128) (z : EReal) (n : ℕ) (h : n ≤ 13) :
    mx W q qr sn n h (ix2 r l) ≤ z ↔ sn (ix2 r l) ≤ z ∧ ∀ (c : Fin 13), c.val < n → ∀ i : Fin 4, b.cached r (col c (tcol i l)) ≤ z := by
  induction n with
  | zero => exact ⟨fun e => ⟨e, fun c hc => absurd hc (Nat.not_lt_zero _)⟩, fun e => e.1⟩
  | succ n ih =>
    show maxStep (mx W q qr sn n (Nat.le_of_succ_le h)) (sc W q qr ⟨n, h⟩) (ix2 r l) ≤ z ↔ _
    rw [maxStep_at, max_le_iff, max_le_iff, max_le_iff, max_le_iff, ih, hsc, hsc, hsc, hsc]
    constructor
    · rintro ⟨⟨⟨⟨⟨h0, h1⟩, e0⟩, e1⟩, e2⟩, e3⟩
      refine ⟨h0, fun c hc i => ?_⟩
      by_cases hcn : c.val < n
      · exact h1 c hcn i
      · obtain rfl : c = ⟨n, h⟩ := Fin.ext (by show c.val = n; omega)
        match i with
        | 0 => refine le_of_eq_of_le (congrArg (b.cached r) (Fin.ext ?_)) e0; show 512 * n + (128 * 0 + l.val) = 512 * n + l.val; omega
        | 1 => refine le_of_eq_of_le (congrArg (b.cached r) (Fin.ext ?_)) e1; show 512 * n + (128 * 1 + l.val) = 512 * n + (128 + l.val); omega
        | 2 => refine le_of_eq_of_le (congrArg (b.cached r) (Fin.ext ?_)) e2; show 512 * n + (128 * 2 + l.val) = 512 * n + (256 + l.val); omega
        | 3 => refine le_of_eq_of_le (congrArg (b.cached r) (Fin.ext ?_)) e3; show 512 * n + (128 * 3 + l.val) = 512 * n + (384 + l.val); omega
    · rintro ⟨h0, h1⟩
      refine ⟨⟨⟨⟨⟨h0, fun c hc => h1 c (by omega)⟩, ?_⟩, ?_⟩, ?_⟩, ?_⟩
      · refine le_of_eq_of_le (congrArg (b.cached r) (Fin.ext ?_)) (h1 ⟨n, h⟩ (Nat.lt_succ_self n) 0); show 512 * n + l.val = 512 * n + (128 * 0 + l.val); omega
      · refine le_of_eq_of_le (congrArg (b.cached r) (Fin.ext ?_)) (h1 ⟨n, h⟩ (Nat.lt_succ_self n) 1); show 512 * n + (128 + l.val) = 512 * n + (128 * 1 + l.val); omega
      · refine le_of_eq_of_le (congrArg (b.cached r) (Fin.ext ?_)) (h1 ⟨n, h⟩ (Nat.lt_succ_self n) 2); show 512 * n + (256 + l.val) = 512 * n + (128 * 2 + l.val); omega
      · refine le_of_eq_of_le (congrArg (b.cached r) (Fin.ext ?_)) (h1 ⟨n, h⟩ (Nat.lt_succ_self n) 3); show 512 * n + (384 + l.val) = 512 * n + (128 * 3 + l.val); omega

theorem rowMax_at (a : FVec Ideal S48x128 .f32) (r : Fin 48) :
    shapeCast S48x1 (multiReduction .maximumf [1] S48 a 0xFF800000#32 reduces_S48x128_S48 (.inl rfl) rfl) shapeCasts_S48_S48x1 (ix2 r 0)
      = Finset.univ.fold max (Ideal.ofBits .f32 0xFF800000#32) fun l : Fin 128 => a (ix2 r l) := by
  pointwise

theorem rowSum_at (a : FVec Ideal S48x128 .f32) (r : Fin 48) :
    shapeCast S48x1 (multiReduction .add [1] S48 a 0x00000000#32 reduces_S48x128_S48 (.inl rfl) rfl) shapeCasts_S48_S48x1 (ix2 r 0)
      = ∑ l : Fin 128, a (ix2 r l) := by
  pointwise

include hsc hnew hoff ho in
/-- The largest score of a row. -/
theorem m_at (r : Fin 48) : m W q qr sn (ix2 r 0) = b.top r := by
  refine eq_of_le_iff fun z => ?_
  unfold m
  rw [rowMax_at, negInf_val, fold_max_le, b.top_le]
  simp only [mx_le W q qr sn b hsc]
  constructor
  · intro h
    refine ⟨fun k => ?_, fun t => (hnew r t) ▸ (h (slot o ho t)).1⟩
    have := (h ⟨k.val % 128, by omega⟩).2 ⟨k.val / 512, by omega⟩ (by show k.val / 512 < 13; omega) ⟨k.val % 512 / 128, by omega⟩
    refine le_of_eq_of_le (congrArg (b.cached r) (Fin.ext ?_)) this
    show k.val = 512 * (k.val / 512) + (128 * (k.val % 512 / 128) + k.val % 128)
    omega
  · rintro ⟨hk, ht⟩ l
    refine ⟨?_, fun c _ i => hk _⟩
    by_cases hl : l.val < o ∨ o + 3 ≤ l.val
    · rw [hoff r l hl]; exact bot_le
    · have e := hnew r ⟨l.val - o, by omega⟩
      rw [show slot o ho ⟨l.val - o, by omega⟩ = l from Fin.ext (by show o + (l.val - o) = l.val; omega)] at e
      rw [e]; exact ht _

theorem pay244_at (a : FVec Ideal S48x512 .f32) (mm : FVec Ideal S48x1 .f32) (r : Fin 48) (j : Fin 512) :
    k0_pay244 mm a (ix2 r j) = Ideal.exp (a (ix2 r j) - mm (ix2 r 0)) := by
  pointwise [k0_pay244]

include hsc hnew hoff ho in
theorem ex_at (c : Fin 13) (r : Fin 48) (j : Fin 512) : ex W q qr sn c (ix2 r j) = b.wc r (col c j) := by
  unfold ex
  rw [pay244_at, hsc, m_at W q qr sn b o ho hsc hnew hoff]
  rfl

theorem exNew_open (r : Fin 48) (l : Fin 128) : exNew W q qr sn (ix2 r l) = Ideal.exp (sn (ix2 r l) - m W q qr sn (ix2 r 0)) := by
  unfold exNew
  pointwise

include hsc hnew hoff ho in
theorem exNew_at (r : Fin 48) (t : Fin 3) : exNew W q qr sn (ix2 r (slot o ho t)) = b.wf r t := by
  rw [exNew_open, m_at W q qr sn b o ho hsc hnew hoff, hnew]
  rfl

include hoff in
theorem exNew_off (r : Fin 48) (l : Fin 128) (hl : l.val < o ∨ o + 3 ≤ l.val) : exNew W q qr sn (ix2 r l) = (0 : EReal) := by
  rw [exNew_open, hoff r l hl, sub_eq_add_neg, EReal.bot_add]
  rfl

include hsc hnew hoff ho in
/-- The sum of a row's exponentials. -/
theorem den_at (r : Fin 48) : den W q qr sn v (ix2 r 0) = b.den r := by
  unfold den
  rw [rowSum_at]
  have hl : ∀ l : Fin 128, den' W q qr sn v 13 (Nat.le_refl 13) (ix2 r l)
      = exNew W q qr sn (ix2 r l) + ∑ c : Fin 13, ∑ i : Fin 4, b.wc r (col c (tcol i l)) := by
    intro l
    refine sum_steps (fun n hn => den' W q qr sn v n hn (ix2 r l)) (fun c => ∑ i : Fin 4, b.wc r (col c (tcol i l))) fun n hn => ?_
    show sumStep (den' W q qr sn v n (Nat.le_of_succ_le hn)) (exNow W q qr sn v n hn) (ix2 r l) = _
    rw [sumStep_at, exNow_eq, Fin.sum_univ_four]
    simp only [ex_at W q qr sn b o ho hsc hnew hoff]
    rw [← add_assoc, ← add_assoc, ← add_assoc]
    congr 4
    exact congrArg (fun j => b.wc r (col ⟨n, hn⟩ j)) (Fin.ext (by show l.val = 128 * 0 + l.val; omega))
  simp only [hl]
  rw [Finset.sum_add_distrib, sum_lanes o ho _ (exNew_off W q qr sn o hoff r)]
  simp only [exNew_at W q qr sn b o ho hsc hnew hoff]
  unfold Batch.den
  rw [add_comm]
  congr 1
  rw [sum_keys, Finset.sum_comm]
  refine Finset.sum_congr rfl fun c _ => ?_
  rw [Finset.sum_comm, Fin.sum_univ_tiles 4 128 rfl (fun j => b.wc r ⟨512 * c.val + j.val, by omega⟩)]
  refine Finset.sum_congr rfl fun i _ => Finset.sum_congr rfl fun l _ => congrArg (b.wc r) (Fin.ext ?_)
  show 512 * c.val + (128 * i.val + l.val) = 512 * c.val + (i.val * 128 + l.val)
  omega

theorem visible_count : ∀ r : Fin 48, IntOp.addi (2049#32) (tokWord (BitVec.ofNat 32 r.val)) = BitVec.ofNat 32 (2049 + r.val / 16) := by decide +kernel

theorem pay273_at (a d : FVec Ideal S48x1 .f32) (r : Fin 48) :
    k0_pay273 a d (iota .tc S48x1 32 [0] iota_S48x1_d0_w32) 16#32 k0_pay271 k0_pay272 1#1 (ix3 0 r 0)
      = a (ix2 r 0) + Ideal.log (d (ix2 r 0)) - Ideal.log (FloatOps.sitofp (F := Ideal) .f32 (IntOp.addi (2049#32) (tokWord (BitVec.ofNat 32 r.val)))) := by
  pointwise [k0_pay273, k0_pay272, k0_pay271]
  rfl

include hsc hnew hoff ho in
theorem lse_at (r : Fin 48) : lse W q qr sn v (ix3 0 r 0) = b.lse r := by
  unfold lse
  rw [pay273_at, visible_count, m_at W q qr sn b o ho hsc hnew hoff, den_at W q qr sn v b o ho hsc hnew hoff]
  rfl

theorem one_val : Ideal.ofBits .f32 0x3F800000#32 = 1 := by
  exact Ideal.ofBits_one_f32

include hsc hnew hoff ho in
/-- Multiplying by the reciprocal is dividing. -/
theorem mul_inv (hb : b.Good) (r : Fin 48) (x : EReal) : x * inv W q qr sn v (ix2 r 0) = Ideal.div x (b.den r) := by
  have e : inv W q qr sn v (ix2 r 0) = Ideal.div (Ideal.ofBits .f32 0x3F800000#32) (den W q qr sn v (ix2 r 0)) := rfl
  have h0 := Batch.den_ne_zero hb r
  rw [e, den_at W q qr sn v b o ho hsc hnew hoff, one_val]
  unfold Ideal.div
  rw [if_neg h0, if_neg h0, one_mul]

end model

end Cert.KernelIdeal.Model
end
end
-- ==== Proof.KernelIdeal.Output.lean ====
/- The output: each quarter of its columns is a sum over the new tokens and the chunks of the keys, weighted by the
   softmax. -/
module

public import proofs.«01_k».proof.Proof.KernelIdeal.Softmax

@[expose] public section

set_option maxRecDepth 16384

noncomputable section

namespace Cert.KernelIdeal.Model

open Cert.KernelIdeal.Gen Cert.Spec
open Idealize.ShloMosaic Idealize.ShloMosaic.TcCoe Idealize.ShloMosaic.Tactic

theorem pay310_at (i : FVec Ideal S48x1 .f32) (a : FVec Ideal S48x512 .f32) (r : Fin 48) (j : Fin 512) :
    k0_pay310 i a (ix2 r j) = a (ix2 r j) * i (ix2 r 0) := by
  pointwise [k0_pay310]

/-! A chunk added to each quarter of the columns, and the new tokens. -/

section quarters
variable (A : FVec Ideal S96x256 .f32) (p : FVec Ideal S48x512 .bf16) (C : FVec Ideal S512x512 .fp8e4m3) (S : IVec S4x512 32)
  (e : FVec Ideal S48x128 .f32) (i : FVec Ideal S48x1 .f32) (nc : Vec Ideal S512x128 .fp8e4m3) (ns : Vec Ideal S8x128 .f32)
  (r : Fin 48) (u : Fin 128)

theorem step0 : k0_pay314 A p C S (ix2 ⟨r.val, by omega⟩ ⟨u.val, by omega⟩) = A (ix2 ⟨r.val, by omega⟩ ⟨u.val, by omega⟩)
    + ∑ x, p (ix2 r x) * Ideal.ofBits .f32 (S (ix2 0 x)) * C (ix2 ⟨u.val, by omega⟩ x) := by
  pointwise [k0_pay314, k0_pay313]
theorem step1 : k0_pay314 A p C S (ix2 ⟨48 + r.val, by omega⟩ ⟨128 + u.val, by omega⟩) = A (ix2 ⟨48 + r.val, by omega⟩ ⟨128 + u.val, by omega⟩)
    + ∑ x, p (ix2 r x) * Ideal.ofBits .f32 (S (ix2 1 x)) * C (ix2 ⟨128 + u.val, by omega⟩ x) := by
  pointwise [k0_pay314, k0_pay313]
theorem step2 : k0_pay315 A p C S (ix2 ⟨r.val, by omega⟩ ⟨u.val, by omega⟩) = A (ix2 ⟨r.val, by omega⟩ ⟨u.val, by omega⟩)
    + ∑ x, p (ix2 r x) * Ideal.ofBits .f32 (S (ix2 2 x)) * C (ix2 ⟨256 + u.val, by omega⟩ x) := by
  pointwise [k0_pay315, k0_pay313]
theorem step3 : k0_pay315 A p C S (ix2 ⟨48 + r.val, by omega⟩ ⟨128 + u.val, by omega⟩) = A (ix2 ⟨48 + r.val, by omega⟩ ⟨128 + u.val, by omega⟩)
    + ∑ x, p (ix2 r x) * Ideal.ofBits .f32 (S (ix2 3 x)) * C (ix2 ⟨256 + (128 + u.val), by omega⟩ x) := by
  pointwise [k0_pay315, k0_pay313]

theorem new0 : k0_pay277 e i nc ns (ix2 ⟨r.val, by omega⟩ ⟨u.val, by omega⟩)
    = ∑ x, e (ix2 r x) * i (ix2 r 0) * ns (ix2 0 x) * nc (ix2 ⟨u.val, by omega⟩ x) := by
  pointwise [k0_pay277, k0_pay275, k0_pay276, k0_pay274]
theorem new1 : k0_pay277 e i nc ns (ix2 ⟨48 + r.val, by omega⟩ ⟨128 + u.val, by omega⟩)
    = ∑ x, e (ix2 r x) * i (ix2 r 0) * ns (ix2 1 x) * nc (ix2 ⟨128 + u.val, by omega⟩ x) := by
  pointwise [k0_pay277, k0_pay275, k0_pay276, k0_pay274]
theorem new2 : k0_pay280 (k0_pay274 (F := Ideal)) (k0_pay275 e i) nc (k0_pay278 e i ns) (k0_pay279 ns) (ix2 ⟨r.val, by omega⟩ ⟨u.val, by omega⟩)
    = ∑ x, e (ix2 r x) * i (ix2 r 0) * ns (ix2 2 x) * nc (ix2 ⟨256 + u.val, by omega⟩ x) := by
  pointwise [k0_pay280, k0_pay275, k0_pay276, k0_pay278, k0_pay279, k0_pay274]
theorem new3 : k0_pay280 (k0_pay274 (F := Ideal)) (k0_pay275 e i) nc (k0_pay278 e i ns) (k0_pay279 ns) (ix2 ⟨48 + r.val, by omega⟩ ⟨128 + u.val, by omega⟩)
    = ∑ x, e (ix2 r x) * i (ix2 r 0) * ns (ix2 3 x) * nc (ix2 ⟨256 + (128 + u.val), by omega⟩ x) := by
  pointwise [k0_pay280, k0_pay275, k0_pay276, k0_pay278, k0_pay279, k0_pay274]

theorem out0 : k0_pay365 (truncf .bf16 (extractStridedSlice S48x128 ![0, 0] A slices_S96x256_o0_0_S48x128) bitsLt_bf16_f32) (ix3 0 r u)
    = A (ix2 ⟨r.val, by omega⟩ ⟨u.val, by omega⟩) := by pointwise [k0_pay365]
theorem out1 : k0_pay1 A (ix3 0 r u) = A (ix2 ⟨48 + r.val, by omega⟩ ⟨128 + u.val, by omega⟩) := by pointwise [k0_pay1]
theorem out2 : k0_pay2 A (ix3 0 r u) = A (ix2 ⟨r.val, by omega⟩ ⟨u.val, by omega⟩) := by pointwise [k0_pay2]
theorem out3 : k0_pay3 A (ix3 0 r u) = A (ix2 ⟨48 + r.val, by omega⟩ ⟨128 + u.val, by omega⟩) := by pointwise [k0_pay3]
end quarters

/-- Four blocks of columns, each read by itself. -/
theorem columns (w3 w2 w1 w0 : Vec Ideal S1x48x128 .bf16) (f : Fin 48 → Fin 512 → EReal)
    (e0 : ∀ r (u : Fin 128), w0 (ix3 0 r u) = f r ⟨u.val, by omega⟩) (e1 : ∀ r (u : Fin 128), w1 (ix3 0 r u) = f r ⟨128 + u.val, by omega⟩)
    (e2 : ∀ r (u : Fin 128), w2 (ix3 0 r u) = f r ⟨256 + u.val, by omega⟩) (e3 : ∀ r (u : Fin 128), w3 (ix3 0 r u) = f r ⟨256 + (128 + u.val), by omega⟩)
    (r : Fin 48) (c : Fin 512) :
    View.canon (Val := Elt Ideal) (s := S1x48x512) (e := .bf16)
     [⟨Rect.unit ![0, 0, 384] ![1, 48, 128] inb_S1x48x512_S1x48x128_0_0_384, w3⟩,
      ⟨Rect.unit ![0, 0, 256] ![1, 48, 128] inb_S1x48x512_S1x48x128_0_0_256, w2⟩,
      ⟨Rect.unit ![0, 0, 128] ![1, 48, 128] inb_S1x48x512_S1x48x128_0_0_128, w1⟩,
      ⟨Rect.unit ![0, 0, 0] S1x48x128.size inb_S1x48x512_S1x48x128_0_0_0, w0⟩] (ix3 0 r c) = f r c := by
  have hat : ∀ (w : Vec Ideal S1x48x128 .bf16) (n : ℕ) (inb : ∀ a, (![0, 0, n] : Fin 3 → ℕ) a + (![1, 48, 128] : Fin 3 → ℕ) a ≤ S1x48x512.size a)
      (L : List (View.Piece (Elt Ideal) S1x48x512 .bf16)) (hc : n ≤ c.val ∧ c.val < n + 128),
      View.canon (⟨Rect.unit ![0, 0, n] ![1, 48, 128] inb, w⟩ :: L) (ix3 0 r c) = w (ix3 0 r ⟨c.val - n, by omega⟩) := by
    intro w n inb L hc
    have e : (ix3 0 r c : S1x48x512.Idx) = (Rect.unit (s := S1x48x512) ![0, 0, n] ![1, 48, 128] inb).emb (ix3 0 r ⟨c.val - n, by omega⟩ : S1x48x128.Idx) := by
      funext a
      apply Fin.ext
      match a with
      | 0 => rfl
      | 1 => show r.val = 0 + 1 * r.val; omega
      | 2 => show c.val = n + 1 * (c.val - n); omega
    rw [e]
    exact View.canon_cons_emb (Rect.unit (s := S1x48x512) ![0, 0, n] ![1, 48, 128] inb) w L _
  have hno : ∀ (w : Vec Ideal S1x48x128 .bf16) (n : ℕ) (inb : ∀ a, (![0, 0, n] : Fin 3 → ℕ) a + (![1, 48, 128] : Fin 3 → ℕ) a ≤ S1x48x512.size a)
      (L : List (View.Piece (Elt Ideal) S1x48x512 .bf16)) (hc : c.val < n),
      View.canon (⟨Rect.unit ![0, 0, n] ![1, 48, 128] inb, w⟩ :: L) (ix3 0 r c) = View.canon L (ix3 0 r c) := by
    intro w n inb L hc
    refine View.canon_cons_of_not_mem _ L fun h => ?_
    have h2 : n ≤ c.val := ((Rect.mem_set_unit (inb := inb)).1 h 2).1
    omega
  by_cases h3 : 384 ≤ c.val
  · rw [hat w3 384 _ _ ⟨h3, by omega⟩, e3]
    exact congrArg (f r) (Fin.ext (by show 256 + (128 + (c.val - 384)) = c.val; omega))
  rw [hno w3 384 _ _ (by omega)]
  by_cases h2 : 256 ≤ c.val
  · rw [hat w2 256 _ _ ⟨h2, by omega⟩, e2]
    exact congrArg (f r) (Fin.ext (by show 256 + (c.val - 256) = c.val; omega))
  rw [hno w2 256 _ _ (by omega)]
  by_cases h1 : 128 ≤ c.val
  · rw [hat w1 128 _ _ ⟨h1, by omega⟩, e1]
    exact congrArg (f r) (Fin.ext (by show 128 + (c.val - 128) = c.val; omega))
  rw [hno w1 128 _ _ (by omega)]
  exact (hat w0 0 _ _ ⟨Nat.zero_le _, by omega⟩).trans (e0 r ⟨c.val - 0, by omega⟩)

/-- Of the eight rows of scales the four that count. -/
abbrev row8 (g : Fin 4) : Fin 8 := ⟨g.val, by omega⟩

section model

variable (W : (r : Rect S52x168x128) → r.shape.Idx → Elt Ideal .i32) (q : Vec Ideal S1x48x512 .bf16) (qr : Vec Ideal S1x48x64 .bf16)
  (sn : FVec Ideal S48x128 .f32) (v : View sig .tc .vmem S48x6656 .f32) (nc : Vec Ideal S512x128 .fp8e4m3) (ns : Vec Ideal S8x128 .f32)
  (b : Batch) (hb : b.Good) (o : ℕ) (ho : o + 3 ≤ 128)
  (hsc : ∀ c r j, sc W q qr c (ix2 r j) = b.cached r (col c j))
  (hnew : ∀ (r : Fin 48) (t : Fin 3), sn (ix2 r (slot o ho t)) = b.fresh r t)
  (hoff : ∀ (r : Fin 48) (l : Fin 128), (l.val < o ∨ o + 3 ≤ l.val) → sn (ix2 r l) = (⊥ : EReal))
  (hK : ∀ c ρ j, codes W c (ix2 ρ j) = b.K (col c j) ρ)
  (hS : ∀ c g j, Ideal.ofBits .f32 (scaleWords W c (ix2 g j)) = b.S (col c j) g)
  (hN : ∀ (t : Fin 3) (c : Fin 512), nc (ix2 c (slot o ho t)) = b.N t c)
  (hNS : ∀ (t : Fin 3) (g : Fin 4), ns (ix2 (row8 g) (slot o ho t)) = b.NS t g)

include hb ho hsc hnew hoff hK hS hN hNS in
/-- A column of group `g`, from its recurrence over the chunks. -/
theorem quarter (a : ∀ n, n ≤ 13 → EReal) (g : Fin 4) (c : Fin 512) (hc : c.val / 128 = g.val) (r : Fin 48)
    (h0 : a 0 (Nat.zero_le 13) = ∑ x, exNew W q qr sn (ix2 r x) * inv W q qr sn v (ix2 r 0) * ns (ix2 ⟨g.val, by omega⟩ x) * nc (ix2 c x))
    (hstep : ∀ n hn, a (n + 1) hn = a n (Nat.le_of_succ_le hn) + ∑ x, k0_pay310 (inv W q qr sn v) (exBack W q qr sn v n hn) (ix2 r x)
      * Ideal.ofBits .f32 (scaleWords W ⟨n, hn⟩ (ix2 g x)) * codes W ⟨n, hn⟩ (ix2 c x)) :
    a 13 (Nat.le_refl 13) = b.out r c := by
  have hg : grp c = g := Fin.ext hc
  rw [sum_steps a (fun n => ∑ j, Ideal.div (b.wc r (col n j)) (b.den r) * (b.K (col n j) c * b.S (col n j) (grp c))) fun n hn => ?_, h0]
  · rw [sum_lanes o ho]
    · unfold Batch.out
      rw [add_comm, sum_keys]
      congr 1
      refine Finset.sum_congr rfl fun t _ => ?_
      rw [mul_inv W q qr sn v b o ho hsc hnew hoff hb, exNew_at W q qr sn b o ho hsc hnew hoff, hN, hNS, hg, mul_assoc, mul_comm (b.NS t g)]
    · intro l hl
      rw [exNew_off W q qr sn o hoff r l hl, zero_mul, zero_mul, zero_mul]
  · rw [hstep n hn]
    congr 1
    refine Finset.sum_congr rfl fun j _ => ?_
    rw [pay310_at, mul_inv W q qr sn v b o ho hsc hnew hoff hb, exBack_eq, ex_at W q qr sn b o ho hsc hnew hoff, hK, hS, hg, mul_assoc, mul_comm (b.S _ g)]

include hb ho hsc hnew hoff hK hS hN hNS in
theorem acc_at0 (r : Fin 48) (u : Fin 128) :
    acc0 W q qr sn v nc ns 13 (Nat.le_refl 13) (ix2 ⟨r.val, by omega⟩ ⟨u.val, by omega⟩) = b.out r ⟨u.val, by omega⟩ :=
  quarter W q qr sn v nc ns b hb o ho hsc hnew hoff hK hS hN hNS
    (fun n hn => acc0 W q qr sn v nc ns n hn (ix2 ⟨r.val, by omega⟩ ⟨u.val, by omega⟩)) 0 ⟨u.val, by omega⟩ (by show u.val / 128 = 0; omega) r
    (new0 _ _ _ _ r u) (fun n hn => step0 _ _ _ _ r u)

include hb ho hsc hnew hoff hK hS hN hNS in
theorem acc_at1 (r : Fin 48) (u : Fin 128) :
    acc0 W q qr sn v nc ns 13 (Nat.le_refl 13) (ix2 ⟨48 + r.val, by omega⟩ ⟨128 + u.val, by omega⟩) = b.out r ⟨128 + u.val, by omega⟩ :=
  quarter W q qr sn v nc ns b hb o ho hsc hnew hoff hK hS hN hNS
    (fun n hn => acc0 W q qr sn v nc ns n hn (ix2 ⟨48 + r.val, by omega⟩ ⟨128 + u.val, by omega⟩)) 1 ⟨128 + u.val, by omega⟩ (by show (128 + u.val) / 128 = 1; omega) r
    (new1 _ _ _ _ r u) (fun n hn => step1 _ _ _ _ r u)

include hb ho hsc hnew hoff hK hS hN hNS in
theorem acc_at2 (r : Fin 48) (u : Fin 128) :
    acc1 W q qr sn v nc ns 13 (Nat.le_refl 13) (ix2 ⟨r.val, by omega⟩ ⟨u.val, by omega⟩) = b.out r ⟨256 + u.val, by omega⟩ :=
  quarter W q qr sn v nc ns b hb o ho hsc hnew hoff hK hS hN hNS
    (fun n hn => acc1 W q qr sn v nc ns n hn (ix2 ⟨r.val, by omega⟩ ⟨u.val, by omega⟩)) 2 ⟨256 + u.val, by omega⟩ (by show (256 + u.val) / 128 = 2; omega) r
    (new2 _ _ _ _ r u) (fun n hn => step2 _ _ _ _ r u)

include hb ho hsc hnew hoff hK hS hN hNS in
theorem acc_at3 (r : Fin 48) (u : Fin 128) :
    acc1 W q qr sn v nc ns 13 (Nat.le_refl 13) (ix2 ⟨48 + r.val, by omega⟩ ⟨128 + u.val, by omega⟩) = b.out r ⟨256 + (128 + u.val), by omega⟩ :=
  quarter W q qr sn v nc ns b hb o ho hsc hnew hoff hK hS hN hNS
    (fun n hn => acc1 W q qr sn v nc ns n hn (ix2 ⟨48 + r.val, by omega⟩ ⟨128 + u.val, by omega⟩)) 3 ⟨256 + (128 + u.val), by omega⟩ (by show (256 + (128 + u.val)) / 128 = 3; omega) r
    (new3 _ _ _ _ r u) (fun n hn => step3 _ _ _ _ r u)

include hb ho hsc hnew hoff hK hS hN hNS in
/-- The output of the batch. -/
theorem out_at (r : Fin 48) (c : Fin 512) : View.canon (outL W q qr sn v nc ns) (ix3 0 r c) = b.out r c := by
  unfold outL
  exact columns _ _ _ _ b.out
    (fun r u => (out0 _ r u).trans (acc_at0 W q qr sn v nc ns b hb o ho hsc hnew hoff hK hS hN hNS r u))
    (fun r u => (out1 _ r u).trans (acc_at1 W q qr sn v nc ns b hb o ho hsc hnew hoff hK hS hN hNS r u))
    (fun r u => (out2 _ r u).trans (acc_at2 W q qr sn v nc ns b hb o ho hsc hnew hoff hK hS hN hNS r u))
    (fun r u => (out3 _ r u).trans (acc_at3 W q qr sn v nc ns b hb o ho hsc hnew hoff hK hS hN hNS r u)) r c

end model

end Cert.KernelIdeal.Model
end
end
-- ==== Proof.KernelIdeal.QuantAt.lean ====
/- The quantiser element by element. The eight groups (four by rows, four by lanes) are one vector program over
   the group's entries and its largest magnitudes; at an index it gives the quantiser's code and scale. -/
module

public import proofs.«01_k».proof.Proof.KernelIdeal.Quant
public import proofs.«01_k».proof.Proof.Spec.Exponent
public import Idealize.ShloMosaic.Lib.Pointwise

@[expose] public section

set_option maxRecDepth 16384

noncomputable section

namespace Cert.KernelIdeal.Model

open Cert.KernelIdeal.Gen
open Idealize.ShloMosaic Idealize.ShloMosaic.TcCoe Idealize.ShloMosaic.Tactic

section generic
variable {F : FTy → Type} [FloatOps F] {s : Shape}

/-- One step of the search for the exponent fields of a vector. -/
def stepV (y : FVec F s .f32) (bit : BitVec 32) (ef : IVec s 32) : IVec s 32 :=
  select (cmpf .oge y (bitcastToFloat .f32 (shli (addi ef (broadcast s bit)) (broadcast s 23#32)))) (addi ef (broadcast s bit)) ef

/-- The exponent fields, -/
def fieldV (y : FVec F s .f32) : IVec s 32 :=
  stepV y 1#32 (stepV y 2#32 (stepV y 4#32 (stepV y 8#32 (stepV y 16#32 (stepV y 32#32 (stepV y 64#32 (stepV y 128#32 (broadcast s 0#32))))))))

/-- the exponents of groups of largest magnitudes `a`, -/
def expV (a : FVec F s .f32) : IVec s 32 :=
  select (cmpf .oeq a (broadcast s (Scalar.ofBits .f32 0x00000000#32))) (broadcast s 0#32)
    (select (ori (cmpi .eq (fieldV (mulf a (broadcast s (Scalar.ofBits .f32 0x3B124925#32)))) (broadcast s 0#32))
        (cmpi .eq (fieldV (mulf a (broadcast s (Scalar.ofBits .f32 0x3B124925#32)))) (broadcast s 255#32)))
      (broadcast s 0#32) (subi (fieldV (mulf a (broadcast s (Scalar.ofBits .f32 0x3B124925#32)))) (broadcast s 126#32)))

/-- and the powers of two of a vector of words. -/
def powV (w : IVec s 32) : FVec F s .f32 := bitcastToFloat .f32 (shli (addi w (broadcast s 127#32)) (broadcast s 23#32))

/-- Entries scaled by `p` and clipped to the codes' range. -/
def clipV (g p : FVec F s .f32) : FVec F s .fp8e4m3 :=
  truncf .fp8e4m3 (minimumf (broadcast s (Scalar.ofBits .f32 0x43E00000#32))
    (maximumf (broadcast s (Scalar.ofBits .f32 0xC3E00000#32)) (mulf g p))) bitsLt_fp8e4m3_f32

/-- The largest magnitude of each row of a group, and of each lane. -/
def rowMax (g : FVec F S24x128 .f32) : FVec F S24x1 .f32 :=
  shapeCast S24x1 (multiReduction .maximumf [1] S24 (absf g) 0xFF800000#32 reduces_S24x128_S24 (.inl rfl) rfl) shapeCasts_S24_S24x1
def laneMax (g : FVec F S128x128 .f32) : FVec F S1x128 .f32 :=
  shapeCast S1x128 (multiReduction .maximumf [0] S128 (absf g) 0xFF800000#32 reduces_S128x128_S128 (.inl rfl) rfl) shapeCasts_S128_S1x128

/-- The codes of a group. -/
def rowCodesV (g : FVec F S24x128 .f32) : FVec F S24x128 .fp8e4m3 :=
  clipV g (broadcastTo S24x128 (powV (subi (broadcast S24x1 0#32) (expV (rowMax g)))) broadcasts_S24x1_S24x128)
def laneCodesV (g : FVec F S128x128 .f32) : FVec F S128x128 .fp8e4m3 :=
  clipV g (broadcastTo S128x128 (powV (subi (broadcast S1x128 0#32) (expV (laneMax g)))) broadcasts_S1x128_S128x128)

theorem rowCodes0_eq (x : Vec F S24x512 .bf16) : rowCodes0 x = rowCodesV (extractStridedSlice S24x128 ![0, 0] (k0_pay4 x) slices_S24x512_o0_0_S24x128) := by rfl
theorem rowScale0_eq (x : Vec F S24x512 .bf16) : rowScale0 x = powV (expV (rowMax (extractStridedSlice S24x128 ![0, 0] (k0_pay4 x) slices_S24x512_o0_0_S24x128))) := by rfl
theorem laneCodes0_eq (x : Vec F S512x128 .bf16) : laneCodes0 x = shapeCast S128x128 (laneCodesV (extractStridedSlice S128x128 ![0, 0] (k0_pay5 x) slices_S512x128_o0_0_S128x128)) shapeCasts_S128x128_S128x128 := by rfl
theorem laneScale0_eq (x : Vec F S512x128 .bf16) : laneScale0 x = shapeCast S1x128 (powV (expV (laneMax (extractStridedSlice S128x128 ![0, 0] (k0_pay5 x) slices_S512x128_o0_0_S128x128)))) shapeCasts_S1x128_S1x128 := by rfl
theorem rowCodes1_eq (x : Vec F S24x512 .bf16) : rowCodes1 x = rowCodesV (extractStridedSlice S24x128 ![0, 128] (k0_pay4 x) slices_S24x512_o0_128_S24x128) := by rfl
theorem rowScale1_eq (x : Vec F S24x512 .bf16) : rowScale1 x = powV (expV (rowMax (extractStridedSlice S24x128 ![0, 128] (k0_pay4 x) slices_S24x512_o0_128_S24x128))) := by rfl
theorem laneCodes1_eq (x : Vec F S512x128 .bf16) : laneCodes1 x = shapeCast S128x128 (laneCodesV (extractStridedSlice S128x128 ![128, 0] (k0_pay5 x) slices_S512x128_o128_0_S128x128)) shapeCasts_S128x128_S128x128 := by rfl
theorem laneScale1_eq (x : Vec F S512x128 .bf16) : laneScale1 x = shapeCast S1x128 (powV (expV (laneMax (extractStridedSlice S128x128 ![128, 0] (k0_pay5 x) slices_S512x128_o128_0_S128x128)))) shapeCasts_S1x128_S1x128 := by rfl
theorem rowCodes2_eq (x : Vec F S24x512 .bf16) : rowCodes2 x = rowCodesV (extractStridedSlice S24x128 ![0, 256] (k0_pay4 x) slices_S24x512_o0_256_S24x128) := by rfl
theorem rowScale2_eq (x : Vec F S24x512 .bf16) : rowScale2 x = powV (expV (rowMax (extractStridedSlice S24x128 ![0, 256] (k0_pay4 x) slices_S24x512_o0_256_S24x128))) := by rfl
theorem laneCodes2_eq (x : Vec F S512x128 .bf16) : laneCodes2 x = shapeCast S128x128 (laneCodesV (extractStridedSlice S128x128 ![256, 0] (k0_pay5 x) slices_S512x128_o256_0_S128x128)) shapeCasts_S128x128_S128x128 := by rfl
theorem laneScale2_eq (x : Vec F S512x128 .bf16) : laneScale2 x = shapeCast S1x128 (powV (expV (laneMax (extractStridedSlice S128x128 ![256, 0] (k0_pay5 x) slices_S512x128_o256_0_S128x128)))) shapeCasts_S1x128_S1x128 := by rfl
theorem rowCodes3_eq (x : Vec F S24x512 .bf16) : rowCodes3 x = rowCodesV (extractStridedSlice S24x128 ![0, 384] (k0_pay4 x) slices_S24x512_o0_384_S24x128) := by rfl
theorem rowScale3_eq (x : Vec F S24x512 .bf16) : rowScale3 x = powV (expV (rowMax (extractStridedSlice S24x128 ![0, 384] (k0_pay4 x) slices_S24x512_o0_384_S24x128))) := by rfl
theorem laneCodes3_eq (x : Vec F S512x128 .bf16) : laneCodes3 x = shapeCast S128x128 (laneCodesV (extractStridedSlice S128x128 ![384, 0] (k0_pay5 x) slices_S512x128_o384_0_S128x128)) shapeCasts_S128x128_S128x128 := by rfl
theorem laneScale3_eq (x : Vec F S512x128 .bf16) : laneScale3 x = shapeCast S1x128 (powV (expV (laneMax (extractStridedSlice S128x128 ![384, 0] (k0_pay5 x) slices_S512x128_o384_0_S128x128)))) shapeCasts_S1x128_S1x128 := by rfl

end generic

open Cert.Spec

theorem stepV_at {s : Shape} (y : FVec Ideal s .f32) (bit : BitVec 32) (ef : IVec s 32) (j : s.Idx) :
    stepV y bit ef j = expStep (y j) (ef j) bit := by
  show Scalar.select (Ideal.cmp .oge (y j) (Ideal.ofBits .f32 ((ef j + bit) <<< (23#32).toNat))) (ef j + bit) (ef j) = _
  unfold expStep Scalar.select Ideal.cmp
  show (if BitVec.ofBool (decide (Ideal.ofBits .f32 ((ef j + bit) <<< 23) ≤ y j)) = 1#1 then _ else _) = _
  by_cases h : Ideal.ofBits .f32 ((ef j + bit) <<< 23) ≤ y j
  · rw [if_pos h, decide_eq_true h]; rfl
  · rw [if_neg h, decide_eq_false h]; rfl

theorem fieldV_at {s : Shape} (y : FVec Ideal s .f32) (j : s.Idx) : fieldV y j = expField (y j) := by
  unfold fieldV expField
  simp only [stepV_at]
  rfl

theorem expV_at {s : Shape} (a : FVec Ideal s .f32) (j : s.Idx) : expV a j = expWord (a j) := by
  have hf : fieldV (mulf a (broadcast s (Scalar.ofBits .f32 0x3B124925#32))) j = expField (a j * recip448) := fieldV_at _ j
  have h0 : Ideal.ofBits .f32 0x00000000#32 = 0 := Ideal.ofBits_zero_f32
  unfold expV expWord
  generalize hv : fieldV (mulf a (broadcast s (Scalar.ofBits .f32 0x3B124925#32))) = v at hf ⊢
  rw [← hf]
  show Scalar.select (BitVec.ofBool (decide (a j = Ideal.ofBits .f32 0x00000000#32))) 0#32
    (Scalar.select (BitVec.ofBool (v j == 0#32) ||| BitVec.ofBool (v j == 255#32)) 0#32 (v j - 126#32)) = _
  rw [h0]
  by_cases h : a j = 0
  · rw [if_pos h, decide_eq_true h]; rfl
  · rw [if_neg h, decide_eq_false h]
    by_cases h1 : v j = 0
    · have e1 : (v j == 0#32) = true := beq_iff_eq.2 h1
      rw [if_pos (Or.inl h1), e1]
      by_cases h2 : (v j == 255#32) = true <;> simp [h2, Scalar.select]
    · have e1 : (v j == 0#32) = false := beq_eq_false_iff_ne.2 h1
      by_cases h2 : v j = 255
      · have e2 : (v j == 255#32) = true := beq_iff_eq.2 h2
        rw [if_pos (Or.inr h2), e1, e2]; rfl
      · have e2 : (v j == 255#32) = false := beq_eq_false_iff_ne.2 h2
        rw [if_neg (not_or.2 ⟨h1, h2⟩), e1, e2]; rfl

theorem powV_at {s : Shape} (w : IVec s 32) (j : s.Idx) : powV (F := Ideal) w j = pow2 (w j) := rfl

end Cert.KernelIdeal.Model
end
end
-- ==== Proof.KernelIdeal.Quantise.lean ====
/- What the first point leaves in the codes and scales and in the two scratches, entry by entry: the quantiser's codes
   and scales of the new latents' groups. -/
module

public import proofs.«01_k».proof.Proof.KernelIdeal.QuantAt
public import proofs.«01_k».proof.Proof.Spec.Quantiser

@[expose] public section

set_option maxRecDepth 16384

noncomputable section

namespace Cert.KernelIdeal.Model

open Cert.KernelIdeal.Gen Cert.Spec
open Idealize.ShloMosaic Idealize.ShloMosaic.TcCoe Idealize.ShloMosaic.Tactic

theorem rowMagn_at (g : FVec Ideal S24x128 .f32) (r : Fin 24) : rowMax g (ix2 r 0) = magn fun l => g (ix2 r l) := by
  have : rowMax g (ix2 r 0) = Finset.univ.fold max (Ideal.ofBits .f32 0xFF800000#32) fun l : Fin 128 => max (g (ix2 r l)) (-(g (ix2 r l))) := by
    pointwise [rowMax]
    rfl
  rw [this, negInf_val]; rfl

theorem laneMagn_at (g : FVec Ideal S128x128 .f32) (l : Fin 128) : laneMax g (ix2 0 l) = magn fun u => g (ix2 u l) := by
  have : laneMax g (ix2 0 l) = Finset.univ.fold max (Ideal.ofBits .f32 0xFF800000#32) fun u : Fin 128 => max (g (ix2 u l)) (-(g (ix2 u l))) := by
    pointwise [laneMax]
    rfl
  rw [this, negInf_val]; rfl

theorem rowClip_at (g : FVec Ideal S24x128 .f32) (p : FVec Ideal S24x1 .f32) (r : Fin 24) (l : Fin 128) :
    clipV g (broadcastTo S24x128 p broadcasts_S24x1_S24x128) (ix2 r l)
      = min (Ideal.ofBits .f32 0x43E00000#32) (max (Ideal.ofBits .f32 0xC3E00000#32) (g (ix2 r l) * p (ix2 r 0))) := by
  pointwise [clipV]

theorem laneClip_at (g : FVec Ideal S128x128 .f32) (p : FVec Ideal S1x128 .f32) (u l : Fin 128) :
    clipV g (broadcastTo S128x128 p broadcasts_S1x128_S128x128) (ix2 u l)
      = min (Ideal.ofBits .f32 0x43E00000#32) (max (Ideal.ofBits .f32 0xC3E00000#32) (g (ix2 u l) * p (ix2 0 l))) := by
  pointwise [clipV]

theorem powNeg_at {s : Shape} (a : FVec Ideal s .f32) (j : s.Idx) (h : Magnitude (a j)) :
    powV (F := Ideal) (subi (broadcast s 0#32) (expV a)) j = unscale (a j) := by
  rw [powV_at]
  show pow2 (0#32 - expV a j) = _
  rw [expV_at]
  exact pow2_neg_expWord _ h

theorem powPos_at {s : Shape} (a : FVec Ideal s .f32) (j : s.Idx) (h : Magnitude (a j)) : powV (F := Ideal) (expV a) j = scaleOf (a j) := by
  rw [powV_at, expV_at, pow2_expWord _ h]

theorem rowCodesV_at (g : FVec Ideal S24x128 .f32) (r : Fin 24) (l : Fin 128) (h : Magnitude (magn fun l => g (ix2 r l))) :
    rowCodesV g (ix2 r l) = codeOf (g (ix2 r l)) (magn fun l => g (ix2 r l)) := by
  unfold rowCodesV
  rw [rowClip_at, powNeg_at _ _ (by rw [rowMagn_at]; exact h), rowMagn_at]; rfl

theorem laneCodesV_at (g : FVec Ideal S128x128 .f32) (u l : Fin 128) (h : Magnitude (magn fun u => g (ix2 u l))) :
    laneCodesV g (ix2 u l) = codeOf (g (ix2 u l)) (magn fun u => g (ix2 u l)) := by
  unfold laneCodesV
  rw [laneClip_at, powNeg_at _ _ (by rw [laneMagn_at]; exact h), laneMagn_at]; rfl

theorem castCodes (w : FVec Ideal S128x128 .fp8e4m3) : shapeCast S128x128 w shapeCasts_S128x128_S128x128 = w := shapeCast_self _ _
theorem castScale (w : FVec Ideal S1x128 .f32) : shapeCast S1x128 w shapeCasts_S1x128_S1x128 = w := shapeCast_self _ _

/-! The four groups. -/

theorem rowGroup0 (x : Vec Ideal S24x512 .bf16) (r : Fin 24) (l : Fin 128) :
    extractStridedSlice S24x128 ![0, 0] (k0_pay4 x) slices_S24x512_o0_0_S24x128 (ix2 r l) = x (ix2 r ⟨l.val, by omega⟩) := by pointwise [k0_pay4]
theorem rowGroup1 (x : Vec Ideal S24x512 .bf16) (r : Fin 24) (l : Fin 128) :
    extractStridedSlice S24x128 ![0, 128] (k0_pay4 x) slices_S24x512_o0_128_S24x128 (ix2 r l) = x (ix2 r ⟨128 + l.val, by omega⟩) := by pointwise [k0_pay4]
theorem rowGroup2 (x : Vec Ideal S24x512 .bf16) (r : Fin 24) (l : Fin 128) :
    extractStridedSlice S24x128 ![0, 256] (k0_pay4 x) slices_S24x512_o0_256_S24x128 (ix2 r l) = x (ix2 r ⟨256 + l.val, by omega⟩) := by pointwise [k0_pay4]
theorem rowGroup3 (x : Vec Ideal S24x512 .bf16) (r : Fin 24) (l : Fin 128) :
    extractStridedSlice S24x128 ![0, 384] (k0_pay4 x) slices_S24x512_o0_384_S24x128 (ix2 r l) = x (ix2 r ⟨384 + l.val, by omega⟩) := by pointwise [k0_pay4]
theorem laneGroup0 (x : Vec Ideal S512x128 .bf16) (u l : Fin 128) :
    extractStridedSlice S128x128 ![0, 0] (k0_pay5 x) slices_S512x128_o0_0_S128x128 (ix2 u l) = x (ix2 ⟨u.val, by omega⟩ l) := by pointwise [k0_pay5]
theorem laneGroup1 (x : Vec Ideal S512x128 .bf16) (u l : Fin 128) :
    extractStridedSlice S128x128 ![128, 0] (k0_pay5 x) slices_S512x128_o128_0_S128x128 (ix2 u l) = x (ix2 ⟨128 + u.val, by omega⟩ l) := by pointwise [k0_pay5]
theorem laneGroup2 (x : Vec Ideal S512x128 .bf16) (u l : Fin 128) :
    extractStridedSlice S128x128 ![256, 0] (k0_pay5 x) slices_S512x128_o256_0_S128x128 (ix2 u l) = x (ix2 ⟨256 + u.val, by omega⟩ l) := by pointwise [k0_pay5]
theorem laneGroup3 (x : Vec Ideal S512x128 .bf16) (u l : Fin 128) :
    extractStridedSlice S128x128 ![384, 0] (k0_pay5 x) slices_S512x128_o384_0_S128x128 (ix2 u l) = x (ix2 ⟨384 + u.val, by omega⟩ l) := by pointwise [k0_pay5]

/-! A store read inside its rectangle, and outside. -/

theorem at_piece {n m h w : ℕ} {e : EltTy} (a b : ℕ) (inb : ∀ k, (![a, b] : Fin 2 → ℕ) k + (![h, w] : Fin 2 → ℕ) k ≤ (![n, m] : Fin 2 → ℕ) k)
    (W : (⟨2, ![h, w]⟩ : Shape).Idx → Elt Ideal e) (L : List (View.Piece (Elt Ideal) ⟨2, ![n, m]⟩ e)) (i : Fin n) (j : Fin m) (x : Fin h) (y : Fin w)
    (hi : i.val = a + x.val) (hj : j.val = b + y.val) :
    View.canon (Val := Elt Ideal) (s := ⟨2, ![n, m]⟩) (e := e) (⟨Rect.unit (s := ⟨2, ![n, m]⟩) ![a, b] ![h, w] inb, W⟩ :: L) (ix2 i j) = W (ix2 x y) := by
  have e : (ix2 i j : (⟨2, ![n, m]⟩ : Shape).Idx) = (Rect.unit (s := ⟨2, ![n, m]⟩) ![a, b] ![h, w] inb).emb (ix2 x y : (⟨2, ![h, w]⟩ : Shape).Idx) := by
    funext k
    apply Fin.ext
    match k with
    | 0 => show i.val = a + 1 * x.val; omega
    | 1 => show j.val = b + 1 * y.val; omega
  rw [e]
  exact View.canon_cons_emb (Rect.unit (s := ⟨2, ![n, m]⟩) ![a, b] ![h, w] inb) W L _

theorem off_piece {n m h w : ℕ} {e : EltTy} (a b : ℕ) (inb : ∀ k, (![a, b] : Fin 2 → ℕ) k + (![h, w] : Fin 2 → ℕ) k ≤ (![n, m] : Fin 2 → ℕ) k)
    (W : (⟨2, ![h, w]⟩ : Shape).Idx → Elt Ideal e) (L : List (View.Piece (Elt Ideal) ⟨2, ![n, m]⟩ e)) (i : Fin n) (j : Fin m)
    (hn : i.val < a ∨ j.val < b) :
    View.canon (Val := Elt Ideal) (s := ⟨2, ![n, m]⟩) (e := e) (⟨Rect.unit (s := ⟨2, ![n, m]⟩) ![a, b] ![h, w] inb, W⟩ :: L) (ix2 i j)
      = View.canon (Val := Elt Ideal) L (ix2 i j) := by
  refine View.canon_cons_of_not_mem _ L fun hm => ?_
  have h0 : a ≤ i.val := ((Rect.mem_set_unit (inb := inb)).1 hm 0).1
  have h1 : b ≤ j.val := ((Rect.mem_set_unit (inb := inb)).1 hm 1).1
  omega

/-! Four stores side by side, and four one under another. -/

section four
variable {n m w : ℕ} {e : EltTy}

theorem four_cols (o1 o2 o3 : ℕ) (h1 : o1 = w) (h2 : o2 = 2 * w) (h3 : o3 = 3 * w)
    (inb0 : ∀ k, (![0, 0] : Fin 2 → ℕ) k + (![n, w] : Fin 2 → ℕ) k ≤ (![n, m] : Fin 2 → ℕ) k) (inb1 : ∀ k, (![0, o1] : Fin 2 → ℕ) k + (![n, w] : Fin 2 → ℕ) k ≤ (![n, m] : Fin 2 → ℕ) k)
    (inb2 : ∀ k, (![0, o2] : Fin 2 → ℕ) k + (![n, w] : Fin 2 → ℕ) k ≤ (![n, m] : Fin 2 → ℕ) k) (inb3 : ∀ k, (![0, o3] : Fin 2 → ℕ) k + (![n, w] : Fin 2 → ℕ) k ≤ (![n, m] : Fin 2 → ℕ) k)
    (W3 W2 W1 W0 : (⟨2, ![n, w]⟩ : Shape).Idx → Elt Ideal e) (i : Fin n) (u : Fin w) (f : Fin 4 → Elt Ideal e)
    (e0 : W0 (ix2 i u) = f 0) (e1 : W1 (ix2 i u) = f 1) (e2 : W2 (ix2 i u) = f 2) (e3 : W3 (ix2 i u) = f 3) (g : Fin 4) (j : Fin m) (hj : j.val = w * g.val + u.val) :
    View.canon (Val := Elt Ideal) (s := ⟨2, ![n, m]⟩) (e := e) [⟨Rect.unit (s := ⟨2, ![n, m]⟩) ![0, o3] ![n, w] inb3, W3⟩,
      ⟨Rect.unit (s := ⟨2, ![n, m]⟩) ![0, o2] ![n, w] inb2, W2⟩, ⟨Rect.unit (s := ⟨2, ![n, m]⟩) ![0, o1] ![n, w] inb1, W1⟩,
      ⟨Rect.unit (s := ⟨2, ![n, m]⟩) ![0, 0] ![n, w] inb0, W0⟩] (ix2 i j) = f g := by
  have hu := u.isLt
  match g with
  | 3 => exact (at_piece 0 o3 inb3 W3 _ i j i u (by omega) (by rw [hj]; show w * 3 + _ = _; omega)).trans e3
  | 2 =>
    have hj : j.val = w * 2 + u.val := hj
    exact (off_piece 0 o3 inb3 W3 _ i j (.inr (by omega))).trans ((at_piece 0 o2 inb2 W2 _ i j i u (by omega) (by omega)).trans e2)
  | 1 =>
    have hj : j.val = w * 1 + u.val := hj
    exact (off_piece 0 o3 inb3 W3 _ i j (.inr (by omega))).trans ((off_piece 0 o2 inb2 W2 _ i j (.inr (by omega))).trans
      ((at_piece 0 o1 inb1 W1 _ i j i u (by omega) (by omega)).trans e1))
  | 0 =>
    have hj : j.val = w * 0 + u.val := hj
    exact (off_piece 0 o3 inb3 W3 _ i j (.inr (by omega))).trans ((off_piece 0 o2 inb2 W2 _ i j (.inr (by omega))).trans
      ((off_piece 0 o1 inb1 W1 _ i j (.inr (by omega))).trans ((at_piece 0 0 inb0 W0 _ i j i u (by omega) (by omega)).trans e0)))

theorem four_rows (o1 o2 o3 : ℕ) (h1 : o1 = w) (h2 : o2 = 2 * w) (h3 : o3 = 3 * w)
    (inb0 : ∀ k, (![0, 0] : Fin 2 → ℕ) k + (![w, m] : Fin 2 → ℕ) k ≤ (![n, m] : Fin 2 → ℕ) k) (inb1 : ∀ k, (![o1, 0] : Fin 2 → ℕ) k + (![w, m] : Fin 2 → ℕ) k ≤ (![n, m] : Fin 2 → ℕ) k)
    (inb2 : ∀ k, (![o2, 0] : Fin 2 → ℕ) k + (![w, m] : Fin 2 → ℕ) k ≤ (![n, m] : Fin 2 → ℕ) k) (inb3 : ∀ k, (![o3, 0] : Fin 2 → ℕ) k + (![w, m] : Fin 2 → ℕ) k ≤ (![n, m] : Fin 2 → ℕ) k)
    (W3 W2 W1 W0 : (⟨2, ![w, m]⟩ : Shape).Idx → Elt Ideal e) (j : Fin m) (u : Fin w) (f : Fin 4 → Elt Ideal e)
    (e0 : W0 (ix2 u j) = f 0) (e1 : W1 (ix2 u j) = f 1) (e2 : W2 (ix2 u j) = f 2) (e3 : W3 (ix2 u j) = f 3) (g : Fin 4) (i : Fin n) (hi : i.val = w * g.val + u.val) :
    View.canon (Val := Elt Ideal) (s := ⟨2, ![n, m]⟩) (e := e) [⟨Rect.unit (s := ⟨2, ![n, m]⟩) ![o3, 0] ![w, m] inb3, W3⟩,
      ⟨Rect.unit (s := ⟨2, ![n, m]⟩) ![o2, 0] ![w, m] inb2, W2⟩, ⟨Rect.unit (s := ⟨2, ![n, m]⟩) ![o1, 0] ![w, m] inb1, W1⟩,
      ⟨Rect.unit (s := ⟨2, ![n, m]⟩) ![0, 0] ![w, m] inb0, W0⟩] (ix2 i j) = f g := by
  have hu := u.isLt
  match g with
  | 3 => exact (at_piece o3 0 inb3 W3 _ i j u j (by rw [hi]; show w * 3 + _ = _; omega) (by omega)).trans e3
  | 2 =>
    have hi : i.val = w * 2 + u.val := hi
    exact (off_piece o3 0 inb3 W3 _ i j (.inl (by omega))).trans ((at_piece o2 0 inb2 W2 _ i j u j (by omega) (by omega)).trans e2)
  | 1 =>
    have hi : i.val = w * 1 + u.val := hi
    exact (off_piece o3 0 inb3 W3 _ i j (.inl (by omega))).trans ((off_piece o2 0 inb2 W2 _ i j (.inl (by omega))).trans
      ((at_piece o1 0 inb1 W1 _ i j u j (by omega) (by omega)).trans e1))
  | 0 =>
    have hi : i.val = w * 0 + u.val := hi
    exact (off_piece o3 0 inb3 W3 _ i j (.inl (by omega))).trans ((off_piece o2 0 inb2 W2 _ i j (.inl (by omega))).trans
      ((off_piece o1 0 inb1 W1 _ i j (.inl (by omega))).trans ((at_piece 0 0 inb0 W0 _ i j u j (by omega) (by omega)).trans e0)))

end four

/-! A group's codes and scale from its entries. -/

theorem rowCodes_of (G : FVec Ideal S24x128 .f32) (r : Fin 24) (f : Fin 512 → EReal) (g : Fin 4) (hG : ∀ l : Fin 128, G (ix2 r l) = f ⟨128 * g.val + l.val, by omega⟩)
    (h : Fair f) (u : Fin 128) : rowCodesV G (ix2 r u) = codeIn f g u := by
  have e : (fun l => G (ix2 r l)) = fun l : Fin 128 => f ⟨128 * g.val + l.val, by omega⟩ := funext hG
  rw [rowCodesV_at G r u (by rw [e]; exact h g), e, hG]

theorem rowScale_of (G : FVec Ideal S24x128 .f32) (r : Fin 24) (f : Fin 512 → EReal) (g : Fin 4) (hG : ∀ l : Fin 128, G (ix2 r l) = f ⟨128 * g.val + l.val, by omega⟩)
    (h : Fair f) : powV (F := Ideal) (expV (rowMax G)) (ix2 r 0) = scaleIn f g := by
  have e : (fun l => G (ix2 r l)) = fun l : Fin 128 => f ⟨128 * g.val + l.val, by omega⟩ := funext hG
  rw [powPos_at _ _ (by rw [rowMagn_at, e]; exact h g), rowMagn_at, e]

theorem laneCodes_of (G : FVec Ideal S128x128 .f32) (l : Fin 128) (f : Fin 512 → EReal) (g : Fin 4) (hG : ∀ u : Fin 128, G (ix2 u l) = f ⟨128 * g.val + u.val, by omega⟩)
    (h : Fair f) (u : Fin 128) : shapeCast S128x128 (laneCodesV G) shapeCasts_S128x128_S128x128 (ix2 u l) = codeIn f g u := by
  have e : (fun u => G (ix2 u l)) = fun u : Fin 128 => f ⟨128 * g.val + u.val, by omega⟩ := funext hG
  rw [castCodes, laneCodesV_at G u l (by rw [e]; exact h g), e, hG]

theorem laneScale_of (G : FVec Ideal S128x128 .f32) (l : Fin 128) (f : Fin 512 → EReal) (g : Fin 4) (hG : ∀ u : Fin 128, G (ix2 u l) = f ⟨128 * g.val + u.val, by omega⟩)
    (h : Fair f) : shapeCast S1x128 (powV (F := Ideal) (expV (laneMax G))) shapeCasts_S1x128_S1x128 (ix2 0 l) = scaleIn f g := by
  have e : (fun u => G (ix2 u l)) = fun u : Fin 128 => f ⟨128 * g.val + u.val, by omega⟩ := funext hG
  rw [castScale, powPos_at _ _ (by rw [laneMagn_at, e]; exact h g), laneMagn_at, e]

theorem row0 (x : Vec Ideal S24x512 .bf16) (r : Fin 24) (l : Fin 128) :
    extractStridedSlice S24x128 ![0, 0] (k0_pay4 x) slices_S24x512_o0_0_S24x128 (ix2 r l) = x (ix2 r ⟨128 * (0 : Fin 4).val + l.val, by omega⟩) :=
  (rowGroup0 x r l).trans (congrArg (fun c => x (ix2 r c)) (Fin.ext (by show l.val = 128 * 0 + l.val; omega)))
theorem lane0 (y : Vec Ideal S512x128 .bf16) (u l : Fin 128) :
    extractStridedSlice S128x128 ![0, 0] (k0_pay5 y) slices_S512x128_o0_0_S128x128 (ix2 u l) = y (ix2 ⟨128 * (0 : Fin 4).val + u.val, by omega⟩ l) :=
  (laneGroup0 y u l).trans (congrArg (fun c => y (ix2 c l)) (Fin.ext (by show u.val = 128 * 0 + u.val; omega)))

section stores
variable (x : Vec Ideal S24x512 .bf16) (y : Vec Ideal S512x128 .bf16)

/-- The codes by rows, -/
theorem codes_read (r : Fin 24) (hf : Fair fun c => x (ix2 r c)) (g : Fin 4) (u : Fin 128) :
    View.canon (codesL x) (ix2 r (⟨128 * g.val + u.val, by omega⟩ : Fin 512)) = codeIn (fun c => x (ix2 r c)) g u := by
  unfold codesL
  rw [rowCodes0_eq, rowCodes1_eq, rowCodes2_eq, rowCodes3_eq]
  refine four_cols (e := .fp8e4m3) (n := 24) (m := 512) (w := 128) 128 256 384 rfl rfl rfl _ _ _ _ _ _ _ _ r u (fun g => codeIn (fun c => x (ix2 r c)) g u) ?_ ?_ ?_ ?_ g _ ?_
  · exact rowCodes_of _ r _ 0 (row0 x r) hf u
  · exact rowCodes_of _ r _ 1 (rowGroup1 x r) hf u
  · exact rowCodes_of _ r _ 2 (rowGroup2 x r) hf u
  · exact rowCodes_of _ r _ 3 (rowGroup3 x r) hf u
  · show _ = 128 * g.val + u.val; rfl

/-- the scales by rows, -/
theorem scales_read (r : Fin 24) (hf : Fair fun c => x (ix2 r c)) (g : Fin 4) :
    View.canon (scalesL x) (ix2 r g) = scaleIn (fun c => x (ix2 r c)) g := by
  unfold scalesL
  rw [rowScale0_eq, rowScale1_eq, rowScale2_eq, rowScale3_eq]
  refine four_cols (e := .f32) (n := 24) (m := 4) (w := 1) 1 2 3 rfl rfl rfl _ _ _ _ _ _ _ _ r 0 (fun g => scaleIn (fun c => x (ix2 r c)) g) ?_ ?_ ?_ ?_ g _ ?_
  · exact rowScale_of _ r _ 0 (row0 x r) hf
  · exact rowScale_of _ r _ 1 (rowGroup1 x r) hf
  · exact rowScale_of _ r _ 2 (rowGroup2 x r) hf
  · exact rowScale_of _ r _ 3 (rowGroup3 x r) hf
  · show _ = 1 * g.val + 0; simp

/-- the codes by lanes, -/
theorem nc_read (l : Fin 128) (hf : Fair fun c => y (ix2 c l)) (g : Fin 4) (u : Fin 128) :
    View.canon (ncL y) (ix2 (⟨128 * g.val + u.val, by omega⟩ : Fin 512) l) = codeIn (fun c => y (ix2 c l)) g u := by
  unfold ncL
  rw [laneCodes0_eq, laneCodes1_eq, laneCodes2_eq, laneCodes3_eq]
  refine four_rows (e := .fp8e4m3) (n := 512) (m := 128) (w := 128) 128 256 384 rfl rfl rfl _ _ _ _ _ _ _ _ l u (fun g => codeIn (fun c => y (ix2 c l)) g u) ?_ ?_ ?_ ?_ g _ ?_
  · exact laneCodes_of _ l _ 0 (fun u => lane0 y u l) hf u
  · exact laneCodes_of _ l _ 1 (fun u => laneGroup1 y u l) hf u
  · exact laneCodes_of _ l _ 2 (fun u => laneGroup2 y u l) hf u
  · exact laneCodes_of _ l _ 3 (fun u => laneGroup3 y u l) hf u
  · show _ = 128 * g.val + u.val; rfl

/-- and the scales by lanes. -/
theorem ns_read (l : Fin 128) (hf : Fair fun c => y (ix2 c l)) (g : Fin 4) :
    View.canon (nsL y) (ix2 (⟨g.val, by omega⟩ : Fin 8) l) = scaleIn (fun c => y (ix2 c l)) g := by
  unfold nsL
  rw [laneScale0_eq, laneScale1_eq, laneScale2_eq, laneScale3_eq]
  refine four_rows (e := .f32) (n := 8) (m := 128) (w := 1) 1 2 3 rfl rfl rfl _ _ _ _ _ _ _ _ l 0 (fun g => scaleIn (fun c => y (ix2 c l)) g) ?_ ?_ ?_ ?_ g _ ?_
  · exact laneScale_of _ l _ 0 (fun u => lane0 y u l) hf
  · exact laneScale_of _ l _ 1 (fun u => laneGroup1 y u l) hf
  · exact laneScale_of _ l _ 2 (fun u => laneGroup2 y u l) hf
  · exact laneScale_of _ l _ 3 (fun u => laneGroup3 y u l) hf
  · show _ = 1 * g.val + 0; simp

end stores

end Cert.KernelIdeal.Model
end
end
-- ==== Proof.KernelIdeal.Blocks.lean ====
/- What the kernel's operands hold in terms of the arguments: the keys and queries of the batch at hand, and the new
   tokens' latents both by rows and, transposed and padded to 128 lanes, by lanes. -/
module

public import proofs.«01_k».proof.Proof.KernelIdeal.Frame
public import proofs.«01_k».proof.Proof.KernelIdeal.Output
public import proofs.«01_k».proof.Proof.KernelIdeal.Quantise
public import proofs.«01_k».proof.Proof.Spec.Args
public import Idealize.ShloMosaic.Lib.Claim
public import Idealize.ShloMosaic.Lib.Pipeline.ValueKit

@[expose] public section

set_option maxRecDepth 16384

noncomputable section

namespace Cert.KernelIdeal.Model

open Cert.KernelIdeal.Gen Cert.Spec
open Idealize.ShloMosaic Idealize.ShloMosaic.TcCoe Idealize.ShloMosaic.Tactic

variable (m : (ℓ : Loc nD τ sig) → Buf (Elt Ideal) ℓ) (c : Dev nD)

abbrev A0 : Keys := m ((c : Thread nD τ).loc main_arg0)
abbrev A1 : Queries := m ((c : Thread nD τ).loc main_arg1)
abbrev A2 : RopeQueries := m ((c : Thread nD τ).loc main_arg2)
abbrev A3 : Latents := m ((c : Thread nD τ).loc main_arg3)
abbrev A4 : Ropes := m ((c : Thread nD τ).loc main_arg4)

theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![t.val, 0, 0]
    ∧ win0_7.index t = ![t.val, 0, 0] ∧ win0_8.index t = ![0, 0] ∧ win0_9.index t = ![0, 0]
    ∧ (grid0.coords t 0).val = t.val ∧ t.val < 8 := (by decide +kernel : ∀ t : Fin grid0.N, _)

/-- The batch of a grid point. -/
def batchOf (t : Fin cfg0.N) : Fin 8 := ⟨t.val, (idx t).2.2.2.2.2.2.2.2.2.2.2⟩

/-- The host operations before the kernel, in one list. -/
theorem entry (b : Ref sig .tc) : V m c b = StableHlo.after (hostOps0 ++ (hostOps0_1 ++ (hostOps0_2 ++ (hostOps0_3 ++ hostOps0_4)))) (fun b => m (c, b)) b := by
  unfold V
  simp only [List.flatten_cons, List.flatten_nil, List.append_nil]

theorem query_at (i : Fin 8) (r : Fin 48) (ρ : Fin 512) : (V m c main_v6 : FVec Ideal S8x48x512 .bf16) (ix3 i r ρ)
    = A1 m c (ix4 i (⟨r.val / 16, by omega⟩ : Fin 3) (⟨r.val % 16, by omega⟩ : Fin 16) ρ) := by
  rw [entry]
  simp only [hostOps0, hostOps0_1, hostOps0_2, hostOps0_3, hostOps0_4, List.cons_append, List.nil_append]
  entry_read
  pointwise

theorem ropeQuery_at (i : Fin 8) (r : Fin 48) (d : Fin 64) : (V m c main_v7 : FVec Ideal S8x48x64 .bf16) (ix3 i r d)
    = A2 m c (ix4 i (⟨r.val / 16, by omega⟩ : Fin 3) (⟨r.val % 16, by omega⟩ : Fin 16) d) := by
  rw [entry]
  simp only [hostOps0, hostOps0_1, hostOps0_2, hostOps0_3, hostOps0_4, List.cons_append, List.nil_append]
  entry_read
  pointwise

theorem latent_row (r : Fin 24) (ρ : Fin 512) : (V m c main_v0 : FVec Ideal S24x512 .bf16) (ix2 r ρ) = rowLatent (A3 m c) r ρ := by
  rw [entry]
  simp only [hostOps0, hostOps0_1, hostOps0_2, hostOps0_3, hostOps0_4, List.cons_append, List.nil_append]
  entry_read
  pointwise

theorem v2_eq : (V m c main_v2 : FVec Ideal S512x128 .bf16)
    = pad S512x128 ![0, 0] ![0, 104] ![0, 0] (transpose S512x24 [1, 0] (shapeCast S24x512 (A3 m c) shapeCasts_S8x3x512_S24x512) transposes_S24x512_S512x24_1_0)
        (sitofp (F := Ideal) .bf16 (constantI S_ 32 0#32)) pads_S512x24_S512x128_000_01040 h_S_ := by
  rw [entry]
  simp only [hostOps0, hostOps0_1, hostOps0_2, hostOps0_3, hostOps0_4, List.cons_append, List.nil_append]
  after_results
  rfl

theorem v5_eq : (V m c main_v5 : FVec Ideal S64x128 .bf16)
    = pad S64x128 ![0, 0] ![0, 104] ![0, 0] (transpose S64x24 [1, 0] (shapeCast S24x64 (A4 m c) shapeCasts_S8x3x64_S24x64) transposes_S24x64_S64x24_1_0)
        (sitofp (F := Ideal) .bf16 (constantI S_ 32 0#32)) pads_S64x24_S64x128_000_01040 h_S_ := by
  rw [entry]
  simp only [hostOps0, hostOps0_1, hostOps0_2, hostOps0_3, hostOps0_4, List.cons_append, List.nil_append]
  after_results
  rfl

/-- The lane of a new token. -/
theorem latent_lane (r : Fin 24) (ρ : Fin 512) : (V m c main_v2 : FVec Ideal S512x128 .bf16) (ix2 ρ (⟨r.val, by omega⟩ : Fin 128)) = rowLatent (A3 m c) r ρ := by
  rw [v2_eq]
  pointwise

theorem rope_lane (r : Fin 24) (d : Fin 64) : (V m c main_v5 : FVec Ideal S64x128 .bf16) (ix2 d (⟨r.val, by omega⟩ : Fin 128))
    = A4 m c (ix3 (⟨r.val / 3, by omega⟩ : Fin 8) (⟨r.val % 3, by omega⟩ : Fin 3) d) := by
  rw [v5_eq]
  pointwise

theorem X0_at (t : Fin cfg0.N) (a : Fin 52) (r : Fin 168) (l : Fin 128) :
    X0 m c t (ix3 a r l) = A0 m c (ix3 (⟨(batchOf t).val * 52 + a.val, by omega⟩ : Fin 416) r l) := by
  unfold batchOf
  blk_point [iblk, V, idx t]

theorem X1_at (t : Fin cfg0.N) (r : Fin 48) (ρ : Fin 512) :
    X1 m c t (ix3 0 r ρ) = (V m c main_v6 : FVec Ideal S8x48x512 .bf16) (ix3 (batchOf t) r ρ) := by
  unfold batchOf
  blk_point [iblk, idx t]

theorem X2_at (t : Fin cfg0.N) (r : Fin 48) (d : Fin 64) :
    X2 m c t (ix3 0 r d) = (V m c main_v7 : FVec Ideal S8x48x64 .bf16) (ix3 (batchOf t) r d) := by
  unfold batchOf
  blk_point [iblk, idx t]

theorem X3_at (t : Fin cfg0.N) (r : Fin 24) (d : Fin 512) :
    X3 m c t (ix2 r d) = (V m c main_v0 : FVec Ideal S24x512 .bf16) (ix2 r d) := by
  blk_point [iblk, idx t]

theorem X4_at (t : Fin cfg0.N) (r : Fin 512) (d : Fin 128) :
    X4 m c t (ix2 r d) = (V m c main_v2 : FVec Ideal S512x128 .bf16) (ix2 r d) := by
  blk_point [iblk, idx t]

theorem X5_at (t : Fin cfg0.N) (r : Fin 64) (d : Fin 128) :
    X5 m c t (ix2 r d) = (V m c main_v5 : FVec Ideal S64x128 .bf16) (ix2 r d) := by
  blk_point [iblk, idx t]

end Cert.KernelIdeal.Model
end
end
-- ==== Proof.KernelIdeal.Result.lean ====
/- What the kernel leaves in its four results, as functions of arguments that are ordinary numbers. -/
module

public import proofs.«01_k».proof.Proof.KernelIdeal.Blocks

@[expose] public section

set_option maxRecDepth 16384

noncomputable section

namespace Cert.KernelIdeal.Model

open Cert.KernelIdeal.Gen Cert.Spec
open Idealize.ShloMosaic Idealize.ShloMosaic.TcCoe Idealize.ShloMosaic.Tactic

variable (m : (ℓ : Loc nD τ sig) → Buf (Elt Ideal) ℓ) (c : Dev nD) (h : Ordinary (A0 m c) (A1 m c) (A2 m c) (A3 m c) (A4 m c))

/-- The batch that a point computes. -/
abbrev argBatch (t : Fin cfg0.N) : Batch := ofArgs (A0 m c) (A1 m c) (A2 m c) (A3 m c) (A4 m c) (batchOf t)

theorem key_word (t : Fin cfg0.N) (k : Fin 6656) (r : Fin 168) : keyWord (X0 m c t) k r = word (A0 m c) (batchOf t) k r :=
  X0_at m c t _ r _

theorem row_latent (t : Fin cfg0.N) (r : Fin 24) : (fun ρ => X3 m c t (ix2 r ρ)) = rowLatent (A3 m c) r :=
  funext fun ρ => (X3_at m c t r ρ).trans (latent_row m c r ρ)
theorem lane_latent (t : Fin cfg0.N) (r : Fin 24) : (fun ρ => X4 m c t (ix2 ρ (⟨r.val, by omega⟩ : Fin 128))) = rowLatent (A3 m c) r :=
  funext fun ρ => (X4_at m c t ρ _).trans (latent_lane m c r ρ)

include h in
theorem fair_row (r : Fin 24) : Fair (rowLatent (A3 m c) r) := h.fair _ _

include h in
/-- The codes and scales in a new token's lane. -/
theorem newCodes_at (r : Fin 24) (ρ : Fin 512) : newCodes m c (ix2 ρ (⟨r.val, by omega⟩ : Fin 128))
    = codeIn (rowLatent (A3 m c) r) (grp ρ) ⟨ρ.val % 128, by omega⟩ := by
  have e : ρ = ⟨128 * (grp ρ).val + (⟨ρ.val % 128, by omega⟩ : Fin 128).val, by simp only; omega⟩ := Fin.ext (by simp only; omega)
  have hl := lane_latent m c p0 r
  refine (congrArg (fun z => newCodes m c (ix2 z (⟨r.val, by omega⟩ : Fin 128))) e).trans ?_
  refine (nc_read (X4 m c p0) _ (by rw [hl]; exact fair_row m c h r) (grp ρ) _).trans ?_
  rw [hl]

include h in
theorem newScales_at (r : Fin 24) (g : Fin 4) : newScales m c (ix2 (⟨g.val, by omega⟩ : Fin 8) (⟨r.val, by omega⟩ : Fin 128))
    = scaleIn (rowLatent (A3 m c) r) g := by
  have hl := lane_latent m c p0 r
  refine (ns_read (X4 m c p0) _ (by rw [hl]; exact fair_row m c h r) g).trans ?_
  rw [hl]

/-- The token of a lane. -/
abbrev trow (b : Fin 8) (t : Fin 3) : Fin 24 := ⟨b.val * 3 + t.val, by omega⟩

theorem lane_eq (t : Fin cfg0.N) (u : Fin 3) : lane (grid0.coords t) u = (⟨(trow (batchOf t) u).val, by omega⟩ : Fin 128) := by
  apply Fin.ext
  have e := (idx t).2.2.2.2.2.2.2.2.2.2.1
  show 3 * (grid0.coords t 0).val + u.val = t.val * 3 + u.val
  omega

include h in
theorem batch_eq (t : Fin cfg0.N) : batch (X0 m c t) (X1 m c t) (X2 m c t) (grid0.coords t) (X5 m c t) (newCodes m c) (newScales m c) = argBatch m c t := by
  unfold batch argBatch ofArgs
  simp only [Batch.mk.injEq]
  refine ⟨?_, ?_, ?_, ?_, ?_, ?_, ?_, ?_, ?_⟩
  · funext k ρ; unfold keyCode; rw [key_word]
  · funext k g; unfold keyScale; rw [key_word]
  · funext k d; unfold keyRope; rw [key_word]
  · funext k u; unfold keyBias; rw [key_word]
  · funext r ρ; exact (X1_at m c t r ρ).trans (query_at m c _ r ρ)
  · funext r d; exact (X2_at m c t r d).trans (ropeQuery_at m c _ r d)
  · funext u ρ
    rw [lane_eq]
    exact (newCodes_at m c h _ ρ).trans (congrArg (fun f => codeIn f (grp ρ) ⟨ρ.val % 128, by omega⟩) (rowLatent_at (A3 m c) _ u))
  · funext u g
    rw [lane_eq]
    exact (newScales_at m c h _ g).trans (congrArg (fun f => scaleIn f g) (rowLatent_at (A3 m c) _ u))
  · funext u d
    rw [lane_eq]
    exact (X5_at m c t d _).trans ((rope_lane m c (trow (batchOf t) u) d).trans (by rw [show (⟨(trow (batchOf t) u).val / 3, by omega⟩ : Fin 8) = batchOf t from Fin.ext (by simp only; omega), show (⟨(trow (batchOf t) u).val % 3, by omega⟩ : Fin 3) = u from Fin.ext (by simp only; omega)]))

section point
variable (t : Fin cfg0.N)

theorem low : 3 * (grid0.coords t 0).val + 3 ≤ 128 := by have := coord_lt (grid0.coords t); omega

include h in
theorem cached_at (k : Fin 13) (r : Fin 48) (j : Fin 512) :
    sc (F := Ideal) (fun r => View.ld (X0 m c t) r) (X1 m c t) (X2 m c t) k (ix2 r j) = (argBatch m c t).cached r (col k j) := by
  rw [← batch_eq m c h t]
  exact sc_at (hb := batch_eq m c h t ▸ h.good (batchOf t)) ..

include h in
theorem fresh_at (r : Fin 48) (u : Fin 3) : scNew (F := Ideal) (X1 m c t) (X2 m c t) (grid0.coords t) (X5 m c t) (newCodes m c) (newScales m c)
    (ix2 r (slot _ (low t) u)) = (argBatch m c t).fresh r u := by
  rw [← batch_eq m c h t]
  exact scNew_at (x0 := X0 m c t) (hb := batch_eq m c h t ▸ h.good (batchOf t)) ..

include h in
theorem lse_of (r : Fin 48) : lseAt m c t (ix3 0 r 0) = (argBatch m c t).lse r := by
  unfold lseAt lseV lseL
  rw [View.canon_unit_zero zero3]
  exact lse_at _ _ _ _ _ _ _ (low t) (cached_at m c h t) (fresh_at m c h t) (fun r l hl => scNew_off _ _ _ _ _ _ r l hl) r

include h in
theorem out_of (r : Fin 48) (ρ : Fin 512) : outAt m c t (ix3 0 r ρ) = (argBatch m c t).out r ρ := by
  have e := batch_eq m c h t
  unfold outAt outV
  refine out_at _ _ _ _ _ _ _ (argBatch m c t) (h.good (batchOf t)) _ (low t) (cached_at m c h t) (fresh_at m c h t)
    (fun r l hl => scNew_off _ _ _ _ _ _ r l hl) ?_ ?_ ?_ ?_ r ρ
  · intro k ρ j
    exact (codes_at (X0 m c t) k ρ j).trans (congrArg (fun b : Batch => b.K (col k j) ρ) e)
  · intro k g j
    exact (congrArg (Ideal.ofBits .f32) (scaleWords_at (X0 m c t) k g j)).trans (congrArg (fun b : Batch => b.S (col k j) g) e)
  · intro u ρ
    exact congrArg (fun b : Batch => b.N u ρ) e
  · intro u g
    exact congrArg (fun b : Batch => b.NS u g) e
end point

include h in
theorem codes_of (r : Fin 24) (ρ : Fin 512) : codesOut m c (ix2 r ρ) = codeIn (rowLatent (A3 m c) r) (grp ρ) ⟨ρ.val % 128, by omega⟩ := by
  have e : ρ = ⟨128 * (grp ρ).val + (⟨ρ.val % 128, by omega⟩ : Fin 128).val, by simp only; omega⟩ := Fin.ext (by simp only; omega)
  have hl := row_latent m c p0 r
  refine (congrArg (fun z => codesOut m c (ix2 r z)) e).trans ?_
  refine (codes_read (X3 m c p0) _ (by rw [hl]; exact fair_row m c h r) (grp ρ) _).trans ?_
  rw [hl]

include h in
theorem scales_of (r : Fin 24) (g : Fin 4) : scalesOut m c (ix2 r g) = scaleIn (rowLatent (A3 m c) r) g := by
  have hl := row_latent m c p0 r
  refine (scales_read (X3 m c p0) _ (by rw [hl]; exact fair_row m c h r) g).trans ?_
  rw [hl]

/-! The four results. -/

include h in
theorem codes_all : codesOut m c = codesOf (A3 m c) := by
  funext j
  rw [eq_ix2 j]
  exact codes_of m c h (j 0) (j 1)
include h in
theorem scales_all : scalesOut m c = scalesOf (A3 m c) := by
  funext j
  rw [eq_ix2 j]
  exact scales_of m c h (j 0) (j 1)

include h in
theorem out_all (t : Fin cfg0.N) (y : S1x48x512.Idx) : outAt m c t y = outOf (A0 m c) (A1 m c) (A2 m c) (A3 m c) (A4 m c) (ix3 (batchOf t) (y 1) (y 2)) := by
  have e : y = ix3 (0 : Fin 1) (y 1) (y 2) := (eq_ix3 y).trans (congrArg (fun z => ix3 z (y 1) (y 2)) (Subsingleton.elim (α := Fin 1) _ _))
  rw [e]
  exact out_of m c h t (y 1) (y 2)

include h in
theorem lse_all (t : Fin cfg0.N) (y : S1x48x1.Idx) : lseAt m c t y = lseOf (A0 m c) (A1 m c) (A2 m c) (A3 m c) (A4 m c) (ix3 (batchOf t) (y 1) (y 2)) := by
  have e : y = ix3 (0 : Fin 1) (y 1) (0 : Fin 1) := (eq_ix3 y).trans (congrArg₂ (fun z w => ix3 z (y 1) w) (Subsingleton.elim (α := Fin 1) _ _) (Subsingleton.elim (α := Fin 1) _ _))
  rw [e]
  exact lse_of m c h t (y 1)

include h in
theorem final6 : (dats m 0 c).arrAt 6 (cfgs 0).N = outOf (A0 m c) (A1 m c) (A2 m c) (A3 m c) (A4 m c) := by
  refine (dats m 0 c).arrAt_eq_of_covers 6 _ (by decide +kernel) fun t _ y => ?_
  blk_simp
  rw [after0_6]
  refine (out_all m c h t y).trans (congrArg _ ?_)
  unfold batchOf
  blk_ext [idx t]

include h in
theorem final7 : (dats m 0 c).arrAt 7 (cfgs 0).N = lseOf (A0 m c) (A1 m c) (A2 m c) (A3 m c) (A4 m c) := by
  refine (dats m 0 c).arrAt_eq_of_covers 7 _ (by decide +kernel) fun t _ y => ?_
  blk_simp
  rw [after0_7]
  refine (lse_all m c h t y).trans (congrArg _ ?_)
  unfold batchOf
  blk_ext [idx t]

include h in
theorem final8 : (dats m 0 c).arrAt 8 (cfgs 0).N = codesOf (A3 m c) := by
  refine (dats m 0 c).arrAt_eq_of_covers 8 _ (by decide +kernel) fun t _ y => ?_
  blk_simp
  rw [after0_8, codes_all m c h]
  refine congrArg _ ?_
  blk_ext [idx t]

include h in
theorem final9 : (dats m 0 c).arrAt 9 (cfgs 0).N = scalesOf (A3 m c) := by
  refine (dats m 0 c).arrAt_eq_of_covers 9 _ (by decide +kernel) fun t _ y => ?_
  blk_simp
  rw [after0_9, scales_all m c h]
  refine congrArg _ ?_
  blk_ext [idx t]

end Cert.KernelIdeal.Model
end
end
-- ==== Proof.ReferenceIdeal.Value.lean ====
/- What the reference's body computes, entry by entry: the quantiser's codes and scales, the scores, their softmax,
   the weighted sum and its log-sum-exp. -/
module

public import proofs.«01_k».proof.Proof.Gen.ReferenceIdeal.Frame
public import proofs.«01_k».proof.Proof.Spec.Quantiser

@[expose] public section

set_option maxRecDepth 16384

noncomputable section

namespace Cert.ReferenceIdeal.Value

open Cert.ReferenceIdeal.Gen Cert.Spec
open Idealize.ShloMosaic Idealize.ShloMosaic.TcCoe Idealize.ShloMosaic.Tactic

/-! The quantiser. -/

/-- The group `g` of token row `ρ`. -/
abbrev group (x : Vec Ideal S24x4x128 .bf16) (ρ : Fin 24) (g : Fin 4) : Fin 128 → EReal := fun l => x (ix3 ρ g l)

theorem amax_at (x : Vec Ideal S24x4x128 .bf16) (ρ : Fin 24) (g : Fin 4) :
    (multiReduction .maximumf [2] S24x4 (absf (k0_pay4 x)) 0xFF800000#32 reduces_S24x4x128_S24x4 (.inl rfl) rfl : FVec Ideal S24x4 .f32) (ix2 ρ g)
      = Finset.univ.fold max (Ideal.ofBits .f32 0xFF800000#32) fun l : Fin 128 => max (x (ix3 ρ g l)) (-(x (ix3 ρ g l))) := by
  pointwise [k0_pay4]
  rfl

theorem select_or (p q : Prop) [Decidable p] [Decidable q] (x y : EReal) :
    Scalar.select (BitVec.ofBool (decide p) ||| BitVec.ofBool (decide q)) x y = if p ∨ q then x else y := by
  by_cases hp : p <;> by_cases hq : q <;> simp [hp, hq, Scalar.select]

theorem exp_at (x : Vec Ideal S24x4x128 .bf16) (ρ : Fin 24) (g : Fin 4) :
    k0_pay5 x (ix2 ρ g) = refExp (magn (group x ρ g)) := by
  have ha := amax_at x ρ g
  rw [negInf_val] at ha
  unfold k0_pay5 refExp magn group
  rw [← ha]
  generalize (multiReduction .maximumf [2] S24x4 (absf (k0_pay4 x)) 0xFF800000#32 reduces_S24x4x128_S24x4 (.inl rfl) rfl : FVec Ideal S24x4 .f32) = a
  refine (select_or (a (ix2 ρ g) * recip448 < Ideal.ofBits .f32 0x00800000#32) (a (ix2 ρ g) * recip448 = Ideal.ofBits .f32 0x7F800000#32) _ _).trans ?_
  show (if _ then Ideal.ofBits .f32 0x00000000#32 else _ + Ideal.ofBits .f32 0x3F800000#32) = _
  rw [Ideal.ofBits_zero_f32, Ideal.ofBits_one_f32]
  rfl

theorem scale_at (x : Vec Ideal S24x4x128 .bf16) (ρ : Fin 24) (g : Fin 4) :
    k0_pay6 x (ix2 ρ g) = scaleOf (magn (group x ρ g)) := by
  show Ideal.exp2 (k0_pay5 x (ix2 ρ g)) = _
  rw [exp_at]; rfl

theorem code_open (x : Vec Ideal S24x4x128 .bf16) (ρ : Fin 24) (g : Fin 4) (l : Fin 128) :
    k0_pay7 x (ix3 ρ g l) = min (Ideal.ofBits .f32 0x43E00000#32) (max (Ideal.ofBits .f32 0xC3E00000#32)
      (x (ix3 ρ g l) * Ideal.exp2 (Ideal.ofBits .f32 0x00000000#32 - k0_pay5 x (ix2 ρ g)))) := by
  pointwise [k0_pay7, k0_pay4]
  rfl

theorem code_at (x : Vec Ideal S24x4x128 .bf16) (ρ : Fin 24) (g : Fin 4) (l : Fin 128) :
    k0_pay7 x (ix3 ρ g l) = codeOf (x (ix3 ρ g l)) (magn (group x ρ g)) := by
  rw [code_open, exp_at, Ideal.ofBits_zero_f32]; rfl

theorem codes_at (v : FVec Ideal S24x4x128 .fp8e4m3) (ρ : Fin 24) (c : Fin 512) :
    k0_pay8 v (ix2 ρ c) = v (ix3 ρ (grp c) ⟨c.val % 128, by omega⟩) := by
  pointwise [k0_pay8]

theorem fresh_key (s : FVec Ideal S24x4 .f32) (v : FVec Ideal S24x4x128 .fp8e4m3) (b : Fin 8) (t : Fin 3) (c : Fin 512) :
    k0_pay9 s v (ix3 b t c) = v (ix3 (⟨b.val * 3 + t.val, by omega⟩ : Fin 24) (grp c) ⟨c.val % 128, by omega⟩)
      * s (ix2 (⟨b.val * 3 + t.val, by omega⟩ : Fin 24) (grp c)) := by
  pointwise [k0_pay9]

/-! The scores. -/

theorem key_at (x0 : Vec Ideal S8x6656x512 .i8) (x1 : Vec Ideal S8x6656x512 .f32) (b : Fin 8) (k : Fin 6656) (c : Fin 512) :
    k0_pay3 x0 x1 (ix3 b k c) = Ideal.ofBits .fp8e4m3 (x0 (ix3 b k c)) * x1 (ix3 b k c) := by
  pointwise [k0_pay3]

theorem score_open (v : FVec Ideal S8x6656x512 .bf16) (q : Vec Ideal S8x48x512 .bf16) (p : Vec Ideal S8x48x64 .bf16)
    (ro : Vec Ideal S8x6656x64 .bf16) (bias : Vec Ideal S8x48x6656 .f32) (b : Fin 8) (r : Fin 48) (k : Fin 6656) :
    k0_pay12 v q p ro bias (ix3 b r k)
      = (∑ c : Fin 512, q (ix3 b r c) * v (ix3 b k c) + ∑ d : Fin 64, p (ix3 b r d) * ro (ix3 b k d)) * temper + bias (ix3 b r k) := by
  pointwise [k0_pay12, k0_pay10, k0_pay11]

theorem fresh_open (s : FVec Ideal S24x4 .f32) (v : FVec Ideal S24x4x128 .fp8e4m3) (q : Vec Ideal S8x48x512 .bf16) (p : Vec Ideal S8x48x64 .bf16)
    (nr : Vec Ideal S8x3x64 .bf16) (b : Fin 8) (r : Fin 48) (t : Fin 3) :
    k0_pay13 s v q p nr (ix3 b r t)
      = (∑ c : Fin 512, q (ix3 b r c) * k0_pay9 s v (ix3 b t c) + ∑ d : Fin 64, p (ix3 b r d) * nr (ix3 b t d)) * temper := by
  pointwise [k0_pay13, k0_pay10, k0_pay11]

abbrev rows : IVec S8x48x3 32 := iota .tc S8x48x3 32 [1] iota_S8x48x3_d1_w32

theorem visible : ∀ (r : Fin 48) (t : Fin 3), IntOp.cmpi .sle (BitVec.ofNat 32 t.val) (tokWord (BitVec.ofNat 32 r.val))
    = BitVec.ofBool (decide (t.val ≤ r.val / 16)) := by decide +kernel

section softmax
variable (s : FVec Ideal S8x48x6656 .f32) (n : FVec Ideal S8x48x3 .f32) (b : Fin 8) (r : Fin 48)

theorem line_cached (k : Fin 6656) : k0_pay15 s n rows 16#32 k0_pay14 (ix3 b r (⟨k.val, by omega⟩ : Fin 6659)) = s (ix3 b r k) := by
  pointwise [k0_pay15]

theorem line_fresh_open (t : Fin 3) : k0_pay15 s n rows 16#32 k0_pay14 (ix3 b r (⟨6656 + t.val, by omega⟩ : Fin 6659))
    = Scalar.select (IntOp.cmpi .sle (BitVec.ofNat 32 t.val) (tokWord (BitVec.ofNat 32 r.val))) (n (ix3 b r t)) (Ideal.ofBits .f32 0xFF800000#32) := by
  pointwise [k0_pay15, k0_pay14]

theorem max_open : k0_pay16 s n rows 16#32 k0_pay14 (ix3 b r 0)
    = Finset.univ.fold max (Ideal.ofBits .f32 0xFF800000#32) fun j : Fin 6659 => k0_pay15 s n rows 16#32 k0_pay14 (ix3 b r j) := by
  pointwise [k0_pay16]

theorem exp_open (j : Fin 6659) : k0_pay17 s n rows 16#32 k0_pay14 (ix3 b r j)
    = Ideal.exp (k0_pay15 s n rows 16#32 k0_pay14 (ix3 b r j) - k0_pay16 s n rows 16#32 k0_pay14 (ix3 b r 0)) := by
  pointwise [k0_pay17]

theorem sum_open : k0_pay18 s n rows 16#32 k0_pay14 (ix3 b r 0) = ∑ j : Fin 6659, k0_pay17 s n rows 16#32 k0_pay14 (ix3 b r j) := by
  pointwise [k0_pay18]

theorem div_open (j : Fin 6659) : k0_pay19 s n rows 16#32 k0_pay14 (ix3 b r j)
    = Ideal.div (k0_pay17 s n rows 16#32 k0_pay14 (ix3 b r j)) (k0_pay18 s n rows 16#32 k0_pay14 (ix3 b r 0)) := by
  pointwise [k0_pay19]

theorem lse_open (a d : FVec Ideal S8x48x1 .f32) :
    k0_pay1 a d (iota .tc S8x48x1 32 [1] iota_S8x48x1_d1_w32) 16#32 k0_pay20 k0_pay21 0#32 (ix3 b r 0)
      = a (ix3 b r 0) + Ideal.log (d (ix3 b r 0)) - Ideal.log (FloatOps.sitofp (F := Ideal) .f32
          (IntOp.addi (IntOp.addi (2048#32) (tokWord (BitVec.ofNat 32 r.val))) 1#32)) := by
  pointwise [k0_pay1, k0_pay20, k0_pay21]

theorem out_open (v : FVec Ideal S8x6656x512 .bf16) (w : FVec Ideal S8x3x512 .bf16) (p : FVec Ideal S8x48x6659 .bf16) (c : Fin 512) :
    k0_pay2 v w p (ix3 b r c) = ∑ k : Fin 6656, p (ix3 b r (⟨k.val, by omega⟩ : Fin 6659)) * v (ix3 b k c)
      + ∑ t : Fin 3, p (ix3 b r (⟨6656 + t.val, by omega⟩ : Fin 6659)) * w (ix3 b t c) := by
  pointwise [k0_pay2]

end softmax

theorem count_word : ∀ r : Fin 48, IntOp.addi (IntOp.addi (2048#32) (tokWord (BitVec.ofNat 32 r.val))) 1#32 = BitVec.ofNat 32 (2049 + r.val / 16) := by
  decide +kernel

/-! One batch of the reference. -/

/-- Token `t` of batch `b` among the 24 new tokens. -/
abbrev trow (b : Fin 8) (t : Fin 3) : Fin 24 := ⟨b.val * 3 + t.val, by omega⟩

section batch
variable (x0 : Vec Ideal S8x6656x512 .i8) (x1 : Vec Ideal S8x6656x512 .f32) (x2 : Vec Ideal S8x6656x64 .bf16) (x3 : Vec Ideal S8x48x6656 .f32)
  (x4 : Vec Ideal S8x48x512 .bf16) (x5 : Vec Ideal S8x48x64 .bf16) (x7 : Vec Ideal S8x3x64 .bf16)
  (ns : FVec Ideal S24x4 .f32) (nc : FVec Ideal S24x4x128 .fp8e4m3) (i : Fin 8) (b : Batch)
  (hK : ∀ k c, Ideal.ofBits .fp8e4m3 (x0 (ix3 i k c)) = b.K k c) (hS : ∀ (k : Fin 6656) (c : Fin 512), x1 (ix3 i k c) = b.S k (grp c))
  (hR : ∀ (k : Fin 6656) (d : Fin 64), x2 (ix3 i k d) = b.R k d) (hB : ∀ (r : Fin 48) (k : Fin 6656), x3 (ix3 i r k) = b.B k (tok r))
  (hQ : ∀ (r : Fin 48) (c : Fin 512), x4 (ix3 i r c) = b.Q r c) (hP : ∀ (r : Fin 48) (d : Fin 64), x5 (ix3 i r d) = b.P r d)
  (hN : ∀ (t : Fin 3) (c : Fin 512), nc (ix3 (trow i t) (grp c) ⟨c.val % 128, by omega⟩) = b.N t c)
  (hNS : ∀ (t : Fin 3) (g : Fin 4), ns (ix2 (trow i t) g) = b.NS t g) (hNR : ∀ (t : Fin 3) (d : Fin 64), x7 (ix3 i t d) = b.NR t d)

/-- The scores of the cached keys and of the new tokens, -/
abbrev sC := k0_pay12 (k0_pay3 x0 x1) x4 x5 x2 x3
abbrev sF := k0_pay13 ns nc x4 x5 x7
/-- side by side, -/
abbrev line := k0_pay15 (sC x0 x1 x2 x3 x4 x5) (sF x4 x5 x7 ns nc) rows 16#32 k0_pay14
/-- their maximum, exponentials and sum. -/
abbrev lineMax := k0_pay16 (sC x0 x1 x2 x3 x4 x5) (sF x4 x5 x7 ns nc) rows 16#32 k0_pay14
abbrev lineExp := k0_pay17 (sC x0 x1 x2 x3 x4 x5) (sF x4 x5 x7 ns nc) rows 16#32 k0_pay14
abbrev lineSum := k0_pay18 (sC x0 x1 x2 x3 x4 x5) (sF x4 x5 x7 ns nc) rows 16#32 k0_pay14

/-- The column of a cached key, and of a new token. -/
abbrev cl (k : Fin 6656) : Fin 6659 := ⟨k.val, by omega⟩
abbrev cr (t : Fin 3) : Fin 6659 := ⟨6656 + t.val, by omega⟩

include hK hS hR hB hQ hP in
theorem line_at (r : Fin 48) (k : Fin 6656) : line x0 x1 x2 x3 x4 x5 x7 ns nc (ix3 i r (cl k)) = b.cached r k := by
  refine (line_cached _ _ i r k).trans ((score_open _ _ _ _ _ i r k).trans ?_)
  unfold Batch.cached dot
  simp only [key_at, hK, hS, hR, hB, hQ, hP]

include hQ hP hN hNS hNR in
theorem line_new (r : Fin 48) (t : Fin 3) : line x0 x1 x2 x3 x4 x5 x7 ns nc (ix3 i r (cr t)) = b.fresh r t := by
  refine (line_fresh_open _ _ i r t).trans ?_
  unfold sF
  rw [visible, negInf_val, fresh_open]
  unfold Batch.fresh dot
  simp only [fresh_key, hN, hNS, hNR, hQ, hP]
  by_cases h : t.val ≤ r.val / 16
  · rw [if_pos h, decide_eq_true h]; rfl
  · rw [if_neg h, decide_eq_false h]; rfl

theorem cols (j : Fin 6659) : (∃ k, j = cl k) ∨ ∃ t, j = cr t := by
  by_cases h : j.val < 6656
  · exact .inl ⟨⟨j.val, h⟩, rfl⟩
  · exact .inr ⟨⟨j.val - 6656, by omega⟩, Fin.ext (by show j.val = 6656 + (j.val - 6656); omega)⟩

theorem sum_cols (f : Fin 6659 → EReal) : ∑ j, f j = ∑ k, f (cl k) + ∑ t, f (cr t) :=
  Fin.sum_univ_add (a := 6656) (b := 3) f

include hK hS hR hB hQ hP hN hNS hNR in
theorem max_at (r : Fin 48) : lineMax x0 x1 x2 x3 x4 x5 x7 ns nc (ix3 i r 0) = b.top r := by
  refine (max_open _ _ i r).trans (eq_of_le_iff fun z => ?_)
  have h1 := line_at x0 x1 x2 x3 x4 x5 x7 ns nc i b hK hS hR hB hQ hP r
  have h2 := line_new x0 x1 x2 x3 x4 x5 x7 ns nc i b hQ hP hN hNS hNR r
  rw [negInf_val, fold_max_le, b.top_le]
  constructor
  · exact fun h => ⟨fun k => (h1 k) ▸ h (cl k), fun t => (h2 t) ▸ h (cr t)⟩
  · rintro ⟨hk, ht⟩ j
    rcases cols j with ⟨k, rfl⟩ | ⟨t, rfl⟩
    · exact le_of_eq_of_le (h1 k) (hk k)
    · exact le_of_eq_of_le (h2 t) (ht t)

include hK hS hR hB hQ hP hN hNS hNR in
theorem exp_cached (r : Fin 48) (k : Fin 6656) : lineExp x0 x1 x2 x3 x4 x5 x7 ns nc (ix3 i r (cl k)) = b.wc r k := by
  refine (exp_open _ _ i r _).trans ?_
  exact congrArg₂ (fun x y => Ideal.exp (x - y)) (line_at x0 x1 x2 x3 x4 x5 x7 ns nc i b hK hS hR hB hQ hP r k)
    (max_at x0 x1 x2 x3 x4 x5 x7 ns nc i b hK hS hR hB hQ hP hN hNS hNR r)

include hK hS hR hB hQ hP hN hNS hNR in
theorem exp_new (r : Fin 48) (t : Fin 3) : lineExp x0 x1 x2 x3 x4 x5 x7 ns nc (ix3 i r (cr t)) = b.wf r t := by
  refine (exp_open _ _ i r _).trans ?_
  exact congrArg₂ (fun x y => Ideal.exp (x - y)) (line_new x0 x1 x2 x3 x4 x5 x7 ns nc i b hQ hP hN hNS hNR r t)
    (max_at x0 x1 x2 x3 x4 x5 x7 ns nc i b hK hS hR hB hQ hP hN hNS hNR r)

include hK hS hR hB hQ hP hN hNS hNR in
theorem sum_at (r : Fin 48) : lineSum x0 x1 x2 x3 x4 x5 x7 ns nc (ix3 i r 0) = b.den r := by
  refine (sum_open _ _ i r).trans ((sum_cols _).trans ?_)
  unfold Batch.den
  exact congrArg₂ (· + ·) (Finset.sum_congr rfl fun k _ => exp_cached x0 x1 x2 x3 x4 x5 x7 ns nc i b hK hS hR hB hQ hP hN hNS hNR r k)
    (Finset.sum_congr rfl fun t _ => exp_new x0 x1 x2 x3 x4 x5 x7 ns nc i b hK hS hR hB hQ hP hN hNS hNR r t)

include hK hS hR hB hQ hP hN hNS hNR in
/-- The log-sum-exp. -/
theorem lse_at (r : Fin 48) : k0_pay1 (lineMax x0 x1 x2 x3 x4 x5 x7 ns nc) (lineSum x0 x1 x2 x3 x4 x5 x7 ns nc)
    (iota .tc S8x48x1 32 [1] iota_S8x48x1_d1_w32) 16#32 k0_pay20 k0_pay21 0#32 (ix3 i r 0) = b.lse r := by
  refine (lse_open i r _ _).trans ?_
  rw [count_word, max_at x0 x1 x2 x3 x4 x5 x7 ns nc i b hK hS hR hB hQ hP hN hNS hNR r, sum_at x0 x1 x2 x3 x4 x5 x7 ns nc i b hK hS hR hB hQ hP hN hNS hNR r]
  rfl

include hK hS hR hB hQ hP hN hNS hNR in
/-- The output. -/
theorem out_at (r : Fin 48) (c : Fin 512) : k0_pay2 (k0_pay3 x0 x1) (k0_pay9 ns nc)
    (k0_pay19 (sC x0 x1 x2 x3 x4 x5) (sF x4 x5 x7 ns nc) rows 16#32 k0_pay14) (ix3 i r c) = b.out r c := by
  have hd := sum_at x0 x1 x2 x3 x4 x5 x7 ns nc i b hK hS hR hB hQ hP hN hNS hNR r
  have hc := exp_cached x0 x1 x2 x3 x4 x5 x7 ns nc i b hK hS hR hB hQ hP hN hNS hNR r
  have hf := exp_new x0 x1 x2 x3 x4 x5 x7 ns nc i b hK hS hR hB hQ hP hN hNS hNR r
  refine (out_open i r _ _ _ c).trans ?_
  unfold Batch.out
  refine congrArg₂ (· + ·) (Finset.sum_congr rfl fun k _ => ?_) (Finset.sum_congr rfl fun t _ => ?_)
  · rw [div_open, key_at, hK, hS]
    exact congrArg₂ (fun x y => Ideal.div x y * _) (hc k) hd
  · rw [div_open, fresh_key, hN, hNS]
    exact congrArg₂ (fun x y => Ideal.div x y * _) (hf t) hd

end batch

end Cert.ReferenceIdeal.Value
end
end
-- ==== Proof.ReferenceIdeal.Blocks.lean ====
/- What the reference's operands hold in terms of the arguments: the host unpacks the keys' words into codes, scales,
   rope parts and biases. -/
module

public import proofs.«01_k».proof.Proof.ReferenceIdeal.Value
public import proofs.«01_k».proof.Proof.Spec.Args
public import Idealize.ShloMosaic.Lib.Claim
public import Idealize.ShloMosaic.Lib.Pipeline.ValueKit
public import Idealize.ShloMosaic.Lib.BitcastConvert

@[expose] public section

set_option maxRecDepth 16384

noncomputable section

namespace Cert.ReferenceIdeal.Value

open Cert.ReferenceIdeal.Gen Cert.Spec
open Idealize.ShloMosaic Idealize.ShloMosaic.TcCoe Idealize.ShloMosaic.Tactic

variable (m : (ℓ : Loc nD τ sig) → Buf (Elt Ideal) ℓ) (c : Dev nD)

abbrev A0 : Keys := m ((c : Thread nD τ).loc main_arg0)
abbrev A1 : Queries := m ((c : Thread nD τ).loc main_arg1)
abbrev A2 : RopeQueries := m ((c : Thread nD τ).loc main_arg2)
abbrev A3 : Latents := m ((c : Thread nD τ).loc main_arg3)
abbrev A4 : Ropes := m ((c : Thread nD τ).loc main_arg4)

theorem words_at (i : Fin 8) (k : Fin 6656) (r : Fin 168) :
    (V m c main_v2 : Vec Ideal S8x6656x168 .i32) (ix3 i k r) = word (A0 m c) i k r := by
  entry_read
  unfold word
  pointwise

theorem codes_word (i : Fin 8) (k : Fin 6656) (ρ : Fin 512) : (V m c main_v5 : Vec Ideal S8x6656x512 .i8) (ix3 i k ρ)
    = (word (A0 m c) i k ⟨ρ.val / 4, by omega⟩).extractLsb' (8 * (ρ.val % 4)) 8 := by
  rw [Nat.mul_comm]
  entry_read
  unfold word
  pointwise

theorem scales_word (i : Fin 8) (k : Fin 6656) (ρ : Fin 512) : (V m c main_v9 : FVec Ideal S8x6656x512 .f32) (ix3 i k ρ)
    = Ideal.ofBits .f32 (word (A0 m c) i k ⟨128 + (grp ρ).val, by omega⟩) := by
  entry_read
  unfold word
  pointwise

theorem rope_word (i : Fin 8) (k : Fin 6656) (d : Fin 64) : (V m c main_v12 : FVec Ideal S8x6656x64 .bf16) (ix3 i k d)
    = Ideal.ofBits .bf16 ((word (A0 m c) i k ⟨132 + d.val / 2, by omega⟩).extractLsb' (16 * (d.val % 2)) 16) := by
  rw [Nat.mul_comm]
  entry_read
  unfold word
  pointwise

theorem bias_word (i : Fin 8) (r : Fin 48) (k : Fin 6656) : (V m c main_v17 : FVec Ideal S8x48x6656 .f32) (ix3 i r k)
    = Ideal.ofBits .f32 (word (A0 m c) i k ⟨164 + (tok r).val, by omega⟩) := by
  entry_read
  unfold word
  pointwise

theorem query_at (i : Fin 8) (r : Fin 48) (ρ : Fin 512) : (V m c main_v18 : FVec Ideal S8x48x512 .bf16) (ix3 i r ρ)
    = A1 m c (ix4 i (⟨r.val / 16, by omega⟩ : Fin 3) (⟨r.val % 16, by omega⟩ : Fin 16) ρ) := by
  entry_read
  pointwise

theorem ropeQuery_at (i : Fin 8) (r : Fin 48) (d : Fin 64) : (V m c main_v19 : FVec Ideal S8x48x64 .bf16) (ix3 i r d)
    = A2 m c (ix4 i (⟨r.val / 16, by omega⟩ : Fin 3) (⟨r.val % 16, by omega⟩ : Fin 16) d) := by
  entry_read
  pointwise

theorem latent_at (r : Fin 24) (g : Fin 4) (l : Fin 128) : (V m c main_v20 : FVec Ideal S24x4x128 .bf16) (ix3 r g l)
    = rowLatent (A3 m c) r (⟨128 * g.val + l.val, by omega⟩ : Fin 512) := by
  have e : (⟨128 * g.val + l.val, by omega⟩ : Fin 512) = ⟨g.val * 128 + l.val, by omega⟩ := Fin.ext (by simp only; omega)
  rw [e]
  entry_read
  pointwise

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0] ∧ win0_10.index t = ![0, 0]
    ∧ win0_11.index t = ![0, 0] := (by decide +kernel : ∀ t : Fin grid0.N, _)

theorem block0 (t : Fin cfg0.N) : iblk m c 0 t = (V m c main_v5 : Vec Ideal S8x6656x512 .i8) := by
  funext y
  blk_point [iblk, idx t]
theorem block1 (t : Fin cfg0.N) : iblk m c 1 t = (V m c main_v9 : FVec Ideal S8x6656x512 .f32) := by
  funext y
  blk_point [iblk, idx t]
theorem block2 (t : Fin cfg0.N) : iblk m c 2 t = (V m c main_v12 : FVec Ideal S8x6656x64 .bf16) := by
  funext y
  blk_point [iblk, idx t]
theorem block3 (t : Fin cfg0.N) : iblk m c 3 t = (V m c main_v17 : FVec Ideal S8x48x6656 .f32) := by
  funext y
  blk_point [iblk, idx t]
theorem block4 (t : Fin cfg0.N) : iblk m c 4 t = (V m c main_v18 : FVec Ideal S8x48x512 .bf16) := by
  funext y
  blk_point [iblk, idx t]
theorem block5 (t : Fin cfg0.N) : iblk m c 5 t = (V m c main_v19 : FVec Ideal S8x48x64 .bf16) := by
  funext y
  blk_point [iblk, idx t]
theorem block6 (t : Fin cfg0.N) : iblk m c 6 t = (V m c main_v20 : FVec Ideal S24x4x128 .bf16) := by
  funext y
  blk_point [iblk, idx t]
theorem block7 (t : Fin cfg0.N) : iblk m c 7 t = A4 m c := by
  funext y
  blk_point [iblk, V, idx t]

end Cert.ReferenceIdeal.Value
end
end
-- ==== Proof.ReferenceIdeal.Result.lean ====
/- What the reference leaves in its four results, as functions of the arguments. -/
module

public import proofs.«01_k».proof.Proof.ReferenceIdeal.Blocks

@[expose] public section

set_option maxRecDepth 16384

noncomputable section

namespace Cert.ReferenceIdeal.Value

open Cert.ReferenceIdeal.Gen Cert.Spec
open Idealize.ShloMosaic Idealize.ShloMosaic.TcCoe Idealize.ShloMosaic.Tactic

variable (m : (ℓ : Loc nD τ sig) → Buf (Elt Ideal) ℓ) (c : Dev nD)

/-- The new tokens' scales and codes. -/
theorem new_scale (t : Fin cfg0.N) (r : Fin 24) (g : Fin 4) : k0_pay6 (iblk m c 6 t) (ix2 r g) = scaleIn (rowLatent (A3 m c) r) g := by
  rw [scale_at, block6]
  exact congrArg (fun f => scaleOf (magn f)) (funext fun l => latent_at m c r g l)

theorem new_code (t : Fin cfg0.N) (r : Fin 24) (g : Fin 4) (l : Fin 128) : k0_pay7 (iblk m c 6 t) (ix3 r g l) = codeIn (rowLatent (A3 m c) r) g l := by
  rw [code_at, block6]
  exact congrArg₂ (fun z f => codeOf z (magn f)) (latent_at m c r g l) (funext fun l => latent_at m c r g l)

section stores
variable (x0 : Vec Ideal S8x6656x512 .i8) (x1 : Vec Ideal S8x6656x512 .f32) (x2 : Vec Ideal S8x6656x64 .bf16) (x3 : Vec Ideal S8x48x6656 .f32)
  (x4 : Vec Ideal S8x48x512 .bf16) (x5 : Vec Ideal S8x48x64 .bf16) (x6 : Vec Ideal S24x4x128 .bf16) (x7 : Vec Ideal S8x3x64 .bf16)

theorem zero2 : (![0, 0] : Fin 2 → ℕ) = fun _ => 0 := by funext a; fin_cases a <;> rfl
theorem zero3 : (![0, 0, 0] : Fin 3 → ℕ) = fun _ => 0 := by funext a; fin_cases a <;> rfl

theorem p22 : k0_pay22 x0 x1 x2 x3 x4 x5 x6 x7 = k0_pay3 x0 x1 := by
  unfold k0_pay22; rw [View.ld_unit_zero zero3, View.ld_unit_zero zero3]
theorem p23 : k0_pay23 x0 x1 x2 x3 x4 x5 x6 x7 = k0_pay6 x6 := by
  unfold k0_pay23; rw [View.ld_unit_zero zero3]
theorem p24 : k0_pay24 x0 x1 x2 x3 x4 x5 x6 x7 = k0_pay7 x6 := by
  unfold k0_pay24; rw [View.ld_unit_zero zero3]
theorem p26 : k0_pay26 x0 x1 x2 x3 x4 x5 x6 x7 = sC x0 x1 x2 x3 x4 x5 := by
  unfold k0_pay26; rw [p22, View.ld_unit_zero zero3, View.ld_unit_zero zero3, View.ld_unit_zero zero3, View.ld_unit_zero zero3]
theorem p27 : k0_pay27 x0 x1 x2 x3 x4 x5 x6 x7 = sF x4 x5 x7 (k0_pay6 x6) (k0_pay7 x6) := by
  unfold k0_pay27; rw [p23, p24, View.ld_unit_zero zero3, View.ld_unit_zero zero3, View.ld_unit_zero zero3]

theorem out8 : out0_8 x0 x1 x2 x3 x4 x5 x6 x7 = k0_pay2 (k0_pay3 x0 x1) (k0_pay9 (k0_pay6 x6) (k0_pay7 x6))
    (k0_pay19 (sC x0 x1 x2 x3 x4 x5) (sF x4 x5 x7 (k0_pay6 x6) (k0_pay7 x6)) rows 16#32 k0_pay14) := by
  unfold out0_8; rw [View.canon_unit_zero zero3, p22, p23, p24, p26, p27]; rfl
theorem out9 : out0_9 x0 x1 x2 x3 x4 x5 x6 x7 = k0_pay1 (lineMax x0 x1 x2 x3 x4 x5 x7 (k0_pay6 x6) (k0_pay7 x6))
    (lineSum x0 x1 x2 x3 x4 x5 x7 (k0_pay6 x6) (k0_pay7 x6)) (iota .tc S8x48x1 32 [1] iota_S8x48x1_d1_w32) 16#32 k0_pay20 k0_pay21 0#32 := by
  unfold out0_9; rw [View.canon_unit_zero zero3, p26, p27]; rfl
theorem out10 : out0_10 x0 x1 x2 x3 x4 x5 x6 x7 = k0_pay8 (k0_pay7 x6) := by
  unfold out0_10; rw [View.canon_unit_zero zero2, p24]
theorem out11 : out0_11 x0 x1 x2 x3 x4 x5 x6 x7 = k0_pay6 x6 := by
  unfold out0_11; rw [View.canon_unit_zero zero2, p23]
end stores

/-- What the point leaves in each result, over its blocks. -/
theorem lse_of (t : Fin cfg0.N) (i : Fin 8) (r : Fin 48) :
    out0_9 (iblk m c 0 t) (iblk m c 1 t) (iblk m c 2 t) (iblk m c 3 t) (iblk m c 4 t) (iblk m c 5 t) (iblk m c 6 t) (iblk m c 7 t) (ix3 i r 0)
      = (ofArgs (A0 m c) (A1 m c) (A2 m c) (A3 m c) (A4 m c) i).lse r := by
  rw [out9]
  have e3 := new_scale m c t
  have e4 := new_code m c t
  rw [block0, block1, block2, block3, block4, block5, block7]
  exact lse_at (V m c main_v5) (V m c main_v9) (V m c main_v12) (V m c main_v17) (V m c main_v18) (V m c main_v19) (A4 m c)
    (k0_pay6 (iblk m c 6 t)) (k0_pay7 (iblk m c 6 t)) i (ofArgs (A0 m c) (A1 m c) (A2 m c) (A3 m c) (A4 m c) i)
    (fun k ρ => congrArg (Ideal.ofBits .fp8e4m3) (codes_word m c i k ρ)) (fun k ρ => scales_word m c i k ρ) (fun k d => rope_word m c i k d)
    (fun r k => bias_word m c i r k) (fun r ρ => query_at m c i r ρ) (fun r d => ropeQuery_at m c i r d)
    (fun t' ρ => (e4 _ _ _).trans (congrArg (fun f => codeIn f (grp ρ) ⟨ρ.val % 128, by omega⟩) (rowLatent_at (A3 m c) i t')))
    (fun t' g => (e3 _ _).trans (congrArg (fun f => scaleIn f g) (rowLatent_at (A3 m c) i t'))) (fun t' d => rfl) r

theorem out_of (t : Fin cfg0.N) (i : Fin 8) (r : Fin 48) (ρ : Fin 512) :
    out0_8 (iblk m c 0 t) (iblk m c 1 t) (iblk m c 2 t) (iblk m c 3 t) (iblk m c 4 t) (iblk m c 5 t) (iblk m c 6 t) (iblk m c 7 t) (ix3 i r ρ)
      = (ofArgs (A0 m c) (A1 m c) (A2 m c) (A3 m c) (A4 m c) i).out r ρ := by
  rw [out8]
  have e3 := new_scale m c t
  have e4 := new_code m c t
  rw [block0, block1, block2, block3, block4, block5, block7]
  exact out_at (V m c main_v5) (V m c main_v9) (V m c main_v12) (V m c main_v17) (V m c main_v18) (V m c main_v19) (A4 m c)
    (k0_pay6 (iblk m c 6 t)) (k0_pay7 (iblk m c 6 t)) i (ofArgs (A0 m c) (A1 m c) (A2 m c) (A3 m c) (A4 m c) i)
    (fun k ρ => congrArg (Ideal.ofBits .fp8e4m3) (codes_word m c i k ρ)) (fun k ρ => scales_word m c i k ρ) (fun k d => rope_word m c i k d)
    (fun r k => bias_word m c i r k) (fun r ρ => query_at m c i r ρ) (fun r d => ropeQuery_at m c i r d)
    (fun t' ρ => (e4 _ _ _).trans (congrArg (fun f => codeIn f (grp ρ) ⟨ρ.val % 128, by omega⟩) (rowLatent_at (A3 m c) i t')))
    (fun t' g => (e3 _ _).trans (congrArg (fun f => scaleIn f g) (rowLatent_at (A3 m c) i t'))) (fun t' d => rfl) r ρ

theorem out_all (t : Fin cfg0.N) : out0_8 (iblk m c 0 t) (iblk m c 1 t) (iblk m c 2 t) (iblk m c 3 t) (iblk m c 4 t) (iblk m c 5 t) (iblk m c 6 t) (iblk m c 7 t) = outOf (A0 m c) (A1 m c) (A2 m c) (A3 m c) (A4 m c) := by
  funext j
  rw [eq_ix3 j]
  exact out_of m c t (j 0) (j 1) (j 2)
theorem lse_all (t : Fin cfg0.N) : out0_9 (iblk m c 0 t) (iblk m c 1 t) (iblk m c 2 t) (iblk m c 3 t) (iblk m c 4 t) (iblk m c 5 t) (iblk m c 6 t) (iblk m c 7 t) = lseOf (A0 m c) (A1 m c) (A2 m c) (A3 m c) (A4 m c) := by
  funext j
  have e : j = ix3 (j 0) (j 1) (0 : Fin 1) := (eq_ix3 j).trans (congrArg (ix3 (j 0) (j 1)) (Subsingleton.elim (α := Fin 1) _ _))
  rw [e]
  exact lse_of m c t (j 0) (j 1)
theorem codes_all (t : Fin cfg0.N) : out0_10 (iblk m c 0 t) (iblk m c 1 t) (iblk m c 2 t) (iblk m c 3 t) (iblk m c 4 t) (iblk m c 5 t) (iblk m c 6 t) (iblk m c 7 t) = codesOf (A3 m c) := by
  funext j
  rw [out10, eq_ix2 j]
  exact (codes_at _ (j 0) (j 1)).trans (new_code m c t (j 0) (grp (j 1)) _)
theorem scales_all (t : Fin cfg0.N) : out0_11 (iblk m c 0 t) (iblk m c 1 t) (iblk m c 2 t) (iblk m c 3 t) (iblk m c 4 t) (iblk m c 5 t) (iblk m c 6 t) (iblk m c 7 t) = scalesOf (A3 m c) := by
  funext j
  rw [out11, eq_ix2 j]
  exact new_scale m c t (j 0) (j 1)

/-! The four results. -/

theorem final8 : (dats m 0 c).arrAt 8 (cfgs 0).N = outOf (A0 m c) (A1 m c) (A2 m c) (A3 m c) (A4 m c) := by
  refine (dats m 0 c).arrAt_eq_of_after_last 8 t0_0 (by decide +kernel) _ fun j => ?_
  blk_simp
  rw [after0_8]
  exact congrFun (out_all m c t0_0) j

theorem final9 : (dats m 0 c).arrAt 9 (cfgs 0).N = lseOf (A0 m c) (A1 m c) (A2 m c) (A3 m c) (A4 m c) := by
  refine (dats m 0 c).arrAt_eq_of_after_last 9 t0_0 (by decide +kernel) _ fun j => ?_
  blk_simp
  rw [after0_9]
  exact congrFun (lse_all m c t0_0) j

theorem final10 : (dats m 0 c).arrAt 10 (cfgs 0).N = codesOf (A3 m c) := by
  refine (dats m 0 c).arrAt_eq_of_after_last 10 t0_0 (by decide +kernel) _ fun j => ?_
  blk_simp
  rw [after0_10]
  exact congrFun (codes_all m c t0_0) j

theorem final11 : (dats m 0 c).arrAt 11 (cfgs 0).N = scalesOf (A3 m c) := by
  refine (dats m 0 c).arrAt_eq_of_after_last 11 t0_0 (by decide +kernel) _ fun j => ?_
  blk_simp
  rw [after0_11]
  exact congrFun (scales_all m c t0_0) j

end Cert.ReferenceIdeal.Value
end
end
-- ==== Proof.Algebraic.lean ====
/- The kernel's results are the reference's, where the arguments are ordinary numbers: both are the same functions of
   the arguments. -/
module

public import proofs.«01_k».proof.Defs
public import proofs.«01_k».proof.Proof.Spec.Ordinary
public import proofs.«01_k».proof.Proof.KernelIdeal.Result
public import proofs.«01_k».proof.Proof.ReferenceIdeal.Result

@[expose] public section

set_option maxRecDepth 16384

noncomputable section

open Idealize.ShloMosaic Idealize.ShloMosaic.TcCoe Idealize.SL.Sem

namespace Cert.KernelIdeal.Model

open Cert.KernelIdeal.Gen Cert.Spec

/-- Every run of the kernel leaves the four functions of its arguments in its results, and its arguments as they were. -/
theorem run (m : (ℓ : Loc nD τ sig) → Buf (Elt Ideal) ℓ) (ρ : Dev nD → PrngReg) (ho : ∀ c : Dev nD, Ordinary (A0 m c) (A1 m c) (A2 m c) (A3 m c) (A4 m c)) :
    θ_run (defs (F := Ideal)) (onTc (τ := τ) (main (F := Ideal))) ⟨m, fun _ => 0, ρ⟩ (fun r => ∀ c : Dev nD,
      r.2.mem ((c.tc : Thread nD τ).loc main_v8_0) = outOf (A0 m c) (A1 m c) (A2 m c) (A3 m c) (A4 m c)
      ∧ r.2.mem ((c.tc : Thread nD τ).loc main_v8_1) = lseOf (A0 m c) (A1 m c) (A2 m c) (A3 m c) (A4 m c)
      ∧ r.2.mem ((c.tc : Thread nD τ).loc main_v8_2) = codesOf (A3 m c)
      ∧ r.2.mem ((c.tc : Thread nD τ).loc main_v8_3) = scalesOf (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final6 m c (ho c)),
      ((h c).1 7).trans (final7 m c (ho c)),
      ((h c).1 8).trans (final8 m c (ho c)),
      ((h c).1 9).trans (final9 m c (ho c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) ((θ_run defs _ _).mono (fun _ h => h.1) (run_main_quiescent m ρ))

end Cert.KernelIdeal.Model

namespace Cert.ReferenceIdeal.Value

open Cert.ReferenceIdeal.Gen Cert.Spec

/-- Every run of the reference leaves the same four functions of its arguments, and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21_0) = outOf (A0 m c) (A1 m c) (A2 m c) (A3 m c) (A4 m c)
      ∧ r.2.mem ((c.tc : Thread nD τ).loc main_v21_1) = lseOf (A0 m c) (A1 m c) (A2 m c) (A3 m c) (A4 m c)
      ∧ r.2.mem ((c.tc : Thread nD τ).loc main_v21_2) = codesOf (A3 m c)
      ∧ r.2.mem ((c.tc : Thread nD τ).loc main_v21_3) = scalesOf (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 8).trans (final8 m c),
      ((h c).1 9).trans (final9 m c),
      ((h c).1 10).trans (final10 m c),
      ((h c).1 11).trans (final11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c)))⟩) (run_main m ρ)

end Cert.ReferenceIdeal.Value

namespace Cert.Proof

open Cert.Spec

/-- From the same ordinary arguments the kernel and the reference leave the same four results. -/
theorem algebraic : Cert.algebraic_KernelIdeal_ReferenceIdeal_pre_ordinary := by
  intro m g m' g' hpre hagree
  have ho := fun c => Cert.Pre_ordinary.ordinary _ _ _ _ _ (hpre c)
  have e0 : ∀ c, Cert.ReferenceIdeal.Value.A0 m' c = Cert.KernelIdeal.Model.A0 m c := fun c => (hagree c).1
  have e1 : ∀ c, Cert.ReferenceIdeal.Value.A1 m' c = Cert.KernelIdeal.Model.A1 m c := fun c => (hagree c).2.1
  have e2 : ∀ c, Cert.ReferenceIdeal.Value.A2 m' c = Cert.KernelIdeal.Model.A2 m c := fun c => (hagree c).2.2.1
  have e3 : ∀ c, Cert.ReferenceIdeal.Value.A3 m' c = Cert.KernelIdeal.Model.A3 m c := fun c => (hagree c).2.2.2.1
  have e4 : ∀ c, Cert.ReferenceIdeal.Value.A4 m' c = Cert.KernelIdeal.Model.A4 m c := fun c => (hagree c).2.2.2.2
  refine ⟨fun c => outOf (Cert.KernelIdeal.Model.A0 m c) (Cert.KernelIdeal.Model.A1 m c) (Cert.KernelIdeal.Model.A2 m c) (Cert.KernelIdeal.Model.A3 m c) (Cert.KernelIdeal.Model.A4 m c),
    fun c => lseOf (Cert.KernelIdeal.Model.A0 m c) (Cert.KernelIdeal.Model.A1 m c) (Cert.KernelIdeal.Model.A2 m c) (Cert.KernelIdeal.Model.A3 m c) (Cert.KernelIdeal.Model.A4 m c),
    fun c => codesOf (Cert.KernelIdeal.Model.A3 m c), fun c => scalesOf (Cert.KernelIdeal.Model.A3 m c),
    Cert.KernelIdeal.Model.run m g ho, ?_⟩
  refine (θ_run Cert.ReferenceIdeal.defs _ _).mono (fun r h c => ⟨(h c).1.trans ?_, (h c).2.1.trans ?_, (h c).2.2.1.trans ?_,
    (h c).2.2.2.1.trans ?_, (h c).2.2.2.2⟩) (Cert.ReferenceIdeal.Value.run m' g')
  · rw [e0, e1, e2, e3, e4]
  · rw [e0, e1, e2, e3, e4]
  · rw [e3]
  · rw [e3]

end Cert.Proof

end
end
-- ==== Proof.lean ====
/- The claims: the frames of the kernel (as printed and at the extended reals) and of the reference, that the second is
   the first's idealization, and that from ordinary arguments the kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ordinary.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Proof.algebraic⟩

end Cert.Proof

end
